-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range_and_finite [hPre_in_range_and_finite : Cert.Pre_in_range_and_finite.Facts] (m : (ℓ : Loc Cert.KernelIdeal.nD Cert.KernelIdeal.τ Cert.KernelIdeal.sig) → Buf (Elt Ideal) ℓ) : Prop :=
  ∀ c : Dev Cert.KernelIdeal.nD,
    (Cert.Pre_in_range_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).1 = (fun _ => 1#1)
    ∧ (Cert.Pre_in_range_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.1 = (fun _ => 1#1)
    ∧ (Cert.Pre_in_range_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.1 = (fun _ => 1#1)
    ∧ (Cert.Pre_in_range_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range_and_finite [hPre_in_range_and_finite : Cert.Pre_in_range_and_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).1 = (fun _ => 1#1)
    ∧ (Cert.Pre_in_range_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.1 = (fun _ => 1#1)
    ∧ (Cert.Pre_in_range_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.1 = (fun _ => 1#1)
    ∧ (Cert.Pre_in_range_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_in_range_and_finite [hKernelIdeal : Cert.KernelIdeal.Facts] [hPre_in_range_and_finite : Cert.Pre_in_range_and_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range_and_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_in_range_and_finite [hReferenceIdeal : Cert.ReferenceIdeal.Facts] [hPre_in_range_and_finite : Cert.Pre_in_range_and_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range_and_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  IdealRules.named_const.Statement Cert.KernelIdeal.κ "fifth" .f32 0x3E4CCCCD#32 ((1 / 5 : ℝ) : EReal)

def algebraic_KernelIdeal_ReferenceIdeal_pre_in_range_and_finite [hKernelIdeal : Cert.KernelIdeal.Facts] [hReferenceIdeal : Cert.ReferenceIdeal.Facts] [hPre_in_range_and_finite : Cert.Pre_in_range_and_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range_and_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_in_range_and_finite : Cert.Pre_in_range_and_finite.Facts),
    quiescent_Kernel (hKernel := hKernel)
    ∧ quiescent_KernelIdeal (hKernelIdeal := hKernelIdeal)
    ∧ quiescent_KernelIdeal_pre_in_range_and_finite (hKernelIdeal := hKernelIdeal) (hPre_in_range_and_finite := hPre_in_range_and_finite)
    ∧ quiescent_ReferenceIdeal (hReferenceIdeal := hReferenceIdeal)
    ∧ quiescent_ReferenceIdeal_pre_in_range_and_finite (hReferenceIdeal := hReferenceIdeal) (hPre_in_range_and_finite := hPre_in_range_and_finite)
    ∧ preserves_Kernel_KernelIdeal
    ∧ algebraic_KernelIdeal_ReferenceIdeal_pre_in_range_and_finite (hKernelIdeal := hKernelIdeal) (hReferenceIdeal := hReferenceIdeal) (hPre_in_range_and_finite := hPre_in_range_and_finite)
-- ==== Pre_in_range_and_finite.lean ====
abbrev S4096x50x8 : Shape := ⟨3, ![4096, 50, 8]⟩
abbrev S4096x50x5 : Shape := ⟨3, ![4096, 50, 5]⟩
abbrev S30000x64 : Shape := ⟨2, ![30000, 64]⟩
abbrev S8x16 : Shape := ⟨2, ![8, 16]⟩
abbrev S32x32 : Shape := ⟨2, ![32, 32]⟩
abbrev S64x16 : Shape := ⟨2, ![64, 16]⟩
abbrev S8x8 : Shape := ⟨2, ![8, 8]⟩
abbrev S12000x64 : Shape := ⟨2, ![12000, 64]⟩
abbrev S5 : Shape := ⟨1, ![5]⟩
abbrev S253x256 : Shape := ⟨2, ![253, 256]⟩
abbrev S256 : Shape := ⟨1, ![256]⟩
abbrev S_ : Shape := ⟨0, ![]⟩
abbrev S5x256 : Shape := ⟨2, ![5, 256]⟩

class Facts : Prop where
  bcast_S_S4096x50x8 : S_.BroadcastsInDim S4096x50x8 (![] : Fin 0 → Fin S4096x50x8.rank)
  bcast_S_S4096x50x5 : S_.BroadcastsInDim S4096x50x5 (![] : Fin 0 → Fin S4096x50x5.rank)
  bcast_S_S5 : S_.BroadcastsInDim S5 (![] : Fin 0 → Fin S5.rank)
  slices_S253x256_S5x256_248_0 : S253x256.Slices ![248, 0] S5x256
  bcast_S_S5x256 : S_.BroadcastsInDim S5x256 (![] : Fin 0 → Fin S5x256.rank)

variable [Facts]

def fn {F : FTy → Type} [FloatOps F] (main_arg0 : IVec S4096x50x8 32) (main_arg1 : FVec F S4096x50x5 .f32) (main_arg2 : FVec F S30000x64 .f32) (main_arg3 : FVec F S8x16 .f32) (main_arg4 : FVec F S32x32 .f32) (main_arg5 : FVec F S64x16 .f32) (main_arg6 : FVec F S8x8 .f32) (main_arg7 : FVec F S12000x64 .f32) (main_arg8 : FVec F S5 .f32) (main_arg9 : FVec F S5 .f32) (main_arg10 : FVec F S253x256 .f32) (main_arg11 : FVec F S256 .f32) : IVec S4096x50x8 1 × IVec S4096x50x5 1 × IVec S5 1 × IVec S5x256 1 :=
  let main_c : IVec S_ 32 := constantI S_ 32 0#32
  let main_v0 : IVec S4096x50x8 32 := broadcastInDim S4096x50x8 ![] bcast_S_S4096x50x8 main_c
  let main_v1 : IVec S4096x50x8 1 := cmpi .sge main_arg0 main_v0
  let main_c_0 : IVec S_ 32 := constantI S_ 32 8#32
  let main_v2 : IVec S4096x50x8 32 := broadcastInDim S4096x50x8 ![] bcast_S_S4096x50x8 main_c_0
  let main_v3 : IVec S4096x50x8 1 := cmpi .slt main_arg0 main_v2
  let main_v4 : IVec S4096x50x8 1 := andi main_v1 main_v3
  let main_v5 : FVec F S4096x50x5 .f32 := Host.absf main_arg1
  let main_cst : FVec F S_ .f32 := constant S_ .f32 0x7F800000#32
  let main_v6 : FVec F S4096x50x5 .f32 := broadcastInDim S4096x50x5 ![] bcast_S_S4096x50x5 main_cst
  let main_v7 : IVec S4096x50x5 1 := cmpf .olt main_v5 main_v6
  let main_v8 : FVec F S5 .f32 := Host.absf main_arg8
  let main_cst_1 : FVec F S_ .f32 := constant S_ .f32 0x7F800000#32
  let main_v9 : FVec F S5 .f32 := broadcastInDim S5 ![] bcast_S_S5 main_cst_1
  let main_v10 : IVec S5 1 := cmpf .olt main_v8 main_v9
  let main_v11 : FVec F S5x256 .f32 := (extractStridedSlice S5x256 ![248, 0] · slices_S253x256_S5x256_248_0) main_arg10
  let main_v12 : FVec F S5x256 .f32 := Host.absf main_v11
  let main_cst_2 : FVec F S_ .f32 := constant S_ .f32 0x7F800000#32
  let main_v13 : FVec F S5x256 .f32 := broadcastInDim S5x256 ![] bcast_S_S5x256 main_cst_2
  let main_v14 : IVec S5x256 1 := cmpf .olt main_v12 main_v13
  (main_v4, main_v7, main_v10, main_v14)
-- ==== Kernel.lean ====
abbrev S4096x50x8 : Shape := ⟨3, ![4096, 50, 8]⟩
abbrev S4096x50x5 : Shape := ⟨3, ![4096, 50, 5]⟩
abbrev S30000x64 : Shape := ⟨2, ![30000, 64]⟩
abbrev S8x16 : Shape := ⟨2, ![8, 16]⟩
abbrev S32x32 : Shape := ⟨2, ![32, 32]⟩
abbrev S64x16 : Shape := ⟨2, ![64, 16]⟩
abbrev S8x8 : Shape := ⟨2, ![8, 8]⟩
abbrev S12000x64 : Shape := ⟨2, ![12000, 64]⟩
abbrev S5 : Shape := ⟨1, ![5]⟩
abbrev S253x256 : Shape := ⟨2, ![253, 256]⟩
abbrev S256 : Shape := ⟨1, ![256]⟩
abbrev S_ : Shape := ⟨0, ![]⟩
abbrev S8x256 : Shape := ⟨2, ![8, 256]⟩
abbrev S8x64 : Shape := ⟨2, ![8, 64]⟩
abbrev S8x32 : Shape := ⟨2, ![8, 32]⟩
abbrev S64x256 : Shape := ⟨2, ![64, 256]⟩
abbrev S256x256 : Shape := ⟨2, ![256, 256]⟩
abbrev S8 : Shape := ⟨1, ![8]⟩
abbrev S1x8 : Shape := ⟨2, ![1, 8]⟩
abbrev S1 : Shape := ⟨1, ![1]⟩
abbrev S80x256 : Shape := ⟨2, ![80, 256]⟩
abbrev S4096x56x8 : Shape := ⟨3, ![4096, 56, 8]⟩
abbrev S1792x128x8 : Shape := ⟨3, ![1792, 128, 8]⟩
abbrev S1x1x8 : Shape := ⟨3, ![1, 1, 8]⟩
abbrev S1792x128 : Shape := ⟨2, ![1792, 128]⟩
abbrev S16x112x128 : Shape := ⟨3, ![16, 112, 128]⟩
abbrev S4096x56x5 : Shape := ⟨3, ![4096, 56, 5]⟩
abbrev S229376x5 : Shape := ⟨2, ![229376, 5]⟩
abbrev S5x229376 : Shape := ⟨2, ![5, 229376]⟩
abbrev S8x229376 : Shape := ⟨2, ![8, 229376]⟩
abbrev S4096x50x256 : Shape := ⟨3, ![4096, 50, 256]⟩
abbrev S1x112x128 : Shape := ⟨3, ![1, 112, 128]⟩
abbrev S8x14336 : Shape := ⟨2, ![8, 14336]⟩
abbrev S256x50x256 : Shape := ⟨3, ![256, 50, 256]⟩
abbrev S112x128 : Shape := ⟨2, ![112, 128]⟩
abbrev S1x128 : Shape := ⟨2, ![1, 128]⟩
abbrev S8x128 : Shape := ⟨2, ![8, 128]⟩
abbrev S14336x64 : Shape := ⟨2, ![14336, 64]⟩
abbrev S14336 : Shape := ⟨1, ![14336]⟩
abbrev S1x14336 : Shape := ⟨2, ![1, 14336]⟩
abbrev S14336x256 : Shape := ⟨2, ![14336, 256]⟩
abbrev S1x256 : Shape := ⟨2, ![1, 256]⟩
abbrev S256x56x256 : Shape := ⟨3, ![256, 56, 256]⟩

abbrev nBuf : Space → Nat
  | .hbm => 96
  | .vmem => 14
  | .smem => 0
  | _ => 0

abbrev bufTy : (tb : Table) → Fin (tcTables nBuf tb) → BufTy
  | .hbm, ⟨0, _⟩ => ⟨S4096x50x8, .i32⟩
  | .hbm, ⟨1, _⟩ => ⟨S4096x50x5, .f32⟩
  | .hbm, ⟨2, _⟩ => ⟨S30000x64, .f32⟩
  | .hbm, ⟨3, _⟩ => ⟨S8x16, .f32⟩
  | .hbm, ⟨4, _⟩ => ⟨S32x32, .f32⟩
  | .hbm, ⟨5, _⟩ => ⟨S64x16, .f32⟩
  | .hbm, ⟨6, _⟩ => ⟨S8x8, .f32⟩
  | .hbm, ⟨7, _⟩ => ⟨S12000x64, .f32⟩
  | .hbm, ⟨8, _⟩ => ⟨S5, .f32⟩
  | .hbm, ⟨9, _⟩ => ⟨S5, .f32⟩
  | .hbm, ⟨10, _⟩ => ⟨S253x256, .f32⟩
  | .hbm, ⟨11, _⟩ => ⟨S256, .f32⟩
  | .hbm, ⟨12, _⟩ => ⟨S_, .i32⟩
  | .hbm, ⟨13, _⟩ => ⟨S_, .f32⟩
  | .hbm, ⟨14, _⟩ => ⟨S8x256, .f32⟩
  | .hbm, ⟨15, _⟩ => ⟨S8x64, .f32⟩
  | .hbm, ⟨16, _⟩ => ⟨S_, .i32⟩
  | .hbm, ⟨17, _⟩ => ⟨S_, .f32⟩
  | .hbm, ⟨18, _⟩ => ⟨S8x256, .f32⟩
  | .hbm, ⟨19, _⟩ => ⟨S_, .i32⟩
  | .hbm, ⟨20, _⟩ => ⟨S_, .f32⟩
  | .hbm, ⟨21, _⟩ => ⟨S8x256, .f32⟩
  | .hbm, ⟨22, _⟩ => ⟨S_, .i32⟩
  | .hbm, ⟨23, _⟩ => ⟨S_, .f32⟩
  | .hbm, ⟨24, _⟩ => ⟨S8x256, .f32⟩
  | .hbm, ⟨25, _⟩ => ⟨S8x32, .f32⟩
  | .hbm, ⟨26, _⟩ => ⟨S_, .i32⟩
  | .hbm, ⟨27, _⟩ => ⟨S_, .f32⟩
  | .hbm, ⟨28, _⟩ => ⟨S8x256, .f32⟩
  | .hbm, ⟨29, _⟩ => ⟨S8x64, .f32⟩
  | .hbm, ⟨30, _⟩ => ⟨S_, .i32⟩
  | .hbm, ⟨31, _⟩ => ⟨S_, .f32⟩
  | .hbm, ⟨32, _⟩ => ⟨S8x256, .f32⟩
  | .hbm, ⟨33, _⟩ => ⟨S8x32, .f32⟩
  | .hbm, ⟨34, _⟩ => ⟨S_, .i32⟩
  | .hbm, ⟨35, _⟩ => ⟨S_, .f32⟩
  | .hbm, ⟨36, _⟩ => ⟨S8x256, .f32⟩
  | .hbm, ⟨37, _⟩ => ⟨S8x16, .f32⟩
  | .hbm, ⟨38, _⟩ => ⟨S_, .i32⟩
  | .hbm, ⟨39, _⟩ => ⟨S_, .f32⟩
  | .hbm, ⟨40, _⟩ => ⟨S8x256, .f32⟩
  | .hbm, ⟨41, _⟩ => ⟨S64x256, .f32⟩
  | .hbm, ⟨42, _⟩ => ⟨S_, .i32⟩
  | .hbm, ⟨43, _⟩ => ⟨S_, .f32⟩
  | .hbm, ⟨44, _⟩ => ⟨S256x256, .f32⟩
  | .hbm, ⟨45, _⟩ => ⟨S8x256, .f32⟩
  | .hbm, ⟨46, _⟩ => ⟨S_, .i32⟩
  | .hbm, ⟨47, _⟩ => ⟨S_, .f32⟩
  | .hbm, ⟨48, _⟩ => ⟨S8, .f32⟩
  | .hbm, ⟨49, _⟩ => ⟨S8x8, .i32⟩
  | .hbm, ⟨50, _⟩ => ⟨S8x8, .i32⟩
  | .hbm, ⟨51, _⟩ => ⟨S_, .i32⟩
  | .hbm, ⟨52, _⟩ => ⟨S8x8, .i32⟩
  | .hbm, ⟨53, _⟩ => ⟨S8x8, .i32⟩
  | .hbm, ⟨54, _⟩ => ⟨S8x8, .i1⟩
  | .hbm, ⟨55, _⟩ => ⟨S8x8, .f32⟩
  | .hbm, ⟨56, _⟩ => ⟨S1x8, .f32⟩
  | .hbm, ⟨57, _⟩ => ⟨S8x8, .f32⟩
  | .hbm, ⟨58, _⟩ => ⟨S8x8, .f32⟩
  | .hbm, ⟨59, _⟩ => ⟨S_, .f32⟩
  | .hbm, ⟨60, _⟩ => ⟨S8x8, .f32⟩
  | .hbm, ⟨61, _⟩ => ⟨S_, .i32⟩
  | .hbm, ⟨62, _⟩ => ⟨S_, .f32⟩
  | .hbm, ⟨63, _⟩ => ⟨S8, .f32⟩
  | .hbm, ⟨64, _⟩ => ⟨S_, .i32⟩
  | .hbm, ⟨65, _⟩ => ⟨S1, .i32⟩
  | .hbm, ⟨66, _⟩ => ⟨S8x8, .f32⟩
  | .hbm, ⟨67, _⟩ => ⟨S_, .f32⟩
  | .hbm, ⟨68, _⟩ => ⟨S8x256, .f32⟩
  | .hbm, ⟨69, _⟩ => ⟨S_, .i32⟩
  | .hbm, ⟨70, _⟩ => ⟨S1, .i32⟩
  | .hbm, ⟨71, _⟩ => ⟨S8x256, .f32⟩
  | .hbm, ⟨72, _⟩ => ⟨S80x256, .f32⟩
  | .hbm, ⟨73, _⟩ => ⟨S8, .i32⟩
  | .hbm, ⟨74, _⟩ => ⟨S_, .i32⟩
  | .hbm, ⟨75, _⟩ => ⟨S8, .i32⟩
  | .hbm, ⟨76, _⟩ => ⟨S8, .i32⟩
  | .hbm, ⟨77, _⟩ => ⟨S_, .i32⟩
  | .hbm, ⟨78, _⟩ => ⟨S_, .i32⟩
  | .hbm, ⟨79, _⟩ => ⟨S4096x56x8, .i32⟩
  | .hbm, ⟨80, _⟩ => ⟨S1792x128x8, .i32⟩
  | .hbm, ⟨81, _⟩ => ⟨S1x1x8, .i32⟩
  | .hbm, ⟨82, _⟩ => ⟨S1792x128x8, .i32⟩
  | .hbm, ⟨83, _⟩ => ⟨S1792x128x8, .i32⟩
  | .hbm, ⟨84, _⟩ => ⟨S_, .i32⟩
  | .hbm, ⟨85, _⟩ => ⟨S1792x128, .i32⟩
  | .hbm, ⟨86, _⟩ => ⟨S16x112x128, .i32⟩
  | .hbm, ⟨87, _⟩ => ⟨S_, .i32⟩
  | .hbm, ⟨88, _⟩ => ⟨S_, .f32⟩
  | .hbm, ⟨89, _⟩ => ⟨S4096x56x5, .f32⟩
  | .hbm, ⟨90, _⟩ => ⟨S229376x5, .f32⟩
  | .hbm, ⟨91, _⟩ => ⟨S5x229376, .f32⟩
  | .hbm, ⟨92, _⟩ => ⟨S_, .i32⟩
  | .hbm, ⟨93, _⟩ => ⟨S_, .f32⟩
  | .hbm, ⟨94, _⟩ => ⟨S8x229376, .f32⟩
  | .hbm, ⟨95, _⟩ => ⟨S4096x50x256, .f32⟩
  | .local _ .vmem, ⟨0, _⟩ => ⟨S64x256, .f32⟩
  | .local _ .vmem, ⟨1, _⟩ => ⟨S256x256, .f32⟩
  | .local _ .vmem, ⟨2, _⟩ => ⟨S8x256, .f32⟩
  | .local _ .vmem, ⟨3, _⟩ => ⟨S8x8, .f32⟩
  | .local _ .vmem, ⟨4, _⟩ => ⟨S8x8, .f32⟩
  | .local _ .vmem, ⟨5, _⟩ => ⟨S8x256, .f32⟩
  | .local _ .vmem, ⟨6, _⟩ => ⟨S80x256, .f32⟩
  | .local _ .vmem, ⟨7, _⟩ => ⟨S1x112x128, .i32⟩
  | .local _ .vmem, ⟨8, _⟩ => ⟨S1x112x128, .i32⟩
  | .local _ .vmem, ⟨9, _⟩ => ⟨S8x14336, .f32⟩
  | .local _ .vmem, ⟨10, _⟩ => ⟨S8x14336, .f32⟩
  | .local _ .vmem, ⟨11, _⟩ => ⟨S80x256, .f32⟩
  | .local _ .vmem, ⟨12, _⟩ => ⟨S256x50x256, .f32⟩
  | .local _ .vmem, ⟨13, _⟩ => ⟨S256x50x256, .f32⟩
  | _, _ => ⟨S4096x50x8, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_call0_v0 : Ref sig .tc := ⟨.hbm, 13, rfl⟩
abbrev main_v0 : Ref sig .tc := ⟨.hbm, 14, rfl⟩
abbrev main_v1 : Ref sig .tc := ⟨.hbm, 15, rfl⟩
abbrev main_c_0 : Ref sig .tc := ⟨.hbm, 16, rfl⟩
abbrev main_call1_v0 : Ref sig .tc := ⟨.hbm, 17, rfl⟩
abbrev main_v2 : Ref sig .tc := ⟨.hbm, 18, rfl⟩
abbrev main_c_1 : Ref sig .tc := ⟨.hbm, 19, rfl⟩
abbrev main_call2_v0 : Ref sig .tc := ⟨.hbm, 20, rfl⟩
abbrev main_v3 : Ref sig .tc := ⟨.hbm, 21, rfl⟩
abbrev main_c_2 : Ref sig .tc := ⟨.hbm, 22, rfl⟩
abbrev main_call3_v0 : Ref sig .tc := ⟨.hbm, 23, rfl⟩
abbrev main_v4 : Ref sig .tc := ⟨.hbm, 24, rfl⟩
abbrev main_v5 : Ref sig .tc := ⟨.hbm, 25, rfl⟩
abbrev main_c_3 : Ref sig .tc := ⟨.hbm, 26, rfl⟩
abbrev main_call4_v0 : Ref sig .tc := ⟨.hbm, 27, rfl⟩
abbrev main_v6 : Ref sig .tc := ⟨.hbm, 28, rfl⟩
abbrev main_v7 : Ref sig .tc := ⟨.hbm, 29, rfl⟩
abbrev main_c_4 : Ref sig .tc := ⟨.hbm, 30, rfl⟩
abbrev main_call5_v0 : Ref sig .tc := ⟨.hbm, 31, rfl⟩
abbrev main_v8 : Ref sig .tc := ⟨.hbm, 32, rfl⟩
abbrev main_v9 : Ref sig .tc := ⟨.hbm, 33, rfl⟩
abbrev main_c_5 : Ref sig .tc := ⟨.hbm, 34, rfl⟩
abbrev main_call6_v0 : Ref sig .tc := ⟨.hbm, 35, rfl⟩
abbrev main_v10 : Ref sig .tc := ⟨.hbm, 36, rfl⟩
abbrev main_v11 : Ref sig .tc := ⟨.hbm, 37, rfl⟩
abbrev main_c_6 : Ref sig .tc := ⟨.hbm, 38, rfl⟩
abbrev main_call7_v0 : Ref sig .tc := ⟨.hbm, 39, rfl⟩
abbrev main_v12 : Ref sig .tc := ⟨.hbm, 40, rfl⟩
abbrev main_v13 : Ref sig .tc := ⟨.hbm, 41, rfl⟩
abbrev main_c_7 : Ref sig .tc := ⟨.hbm, 42, rfl⟩
abbrev main_call8_v0 : Ref sig .tc := ⟨.hbm, 43, rfl⟩
abbrev main_v14 : Ref sig .tc := ⟨.hbm, 44, rfl⟩
abbrev main_v15 : Ref sig .tc := ⟨.hbm, 45, rfl⟩
abbrev main_c_8 : Ref sig .tc := ⟨.hbm, 46, rfl⟩
abbrev main_call9_v0 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_c_9 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_cst : Ref sig .tc := ⟨.hbm, 59, rfl⟩
abbrev main_v26 : Ref sig .tc := ⟨.hbm, 60, rfl⟩
abbrev main_c_10 : Ref sig .tc := ⟨.hbm, 61, rfl⟩
abbrev main_call10_v0 : Ref sig .tc := ⟨.hbm, 62, rfl⟩
abbrev main_v27 : Ref sig .tc := ⟨.hbm, 63, rfl⟩
abbrev main_c_11 : Ref sig .tc := ⟨.hbm, 64, rfl⟩
abbrev main_v28 : Ref sig .tc := ⟨.hbm, 65, rfl⟩
abbrev main_v29 : Ref sig .tc := ⟨.hbm, 66, rfl⟩
abbrev main_cst_12 : Ref sig .tc := ⟨.hbm, 67, rfl⟩
abbrev main_v30 : Ref sig .tc := ⟨.hbm, 68, rfl⟩
abbrev main_c_13 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_c_14 : Ref sig .tc := ⟨.hbm, 74, rfl⟩
abbrev main_v35 : Ref sig .tc := ⟨.hbm, 75, rfl⟩
abbrev main_v36 : Ref sig .tc := ⟨.hbm, 76, rfl⟩
abbrev main_c_15 : Ref sig .tc := ⟨.hbm, 77, rfl⟩
abbrev main_call11_v0 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_c_16 : Ref sig .tc := ⟨.hbm, 84, rfl⟩
abbrev main_v42 : Ref sig .tc := ⟨.hbm, 85, rfl⟩
abbrev main_v43 : Ref sig .tc := ⟨.hbm, 86, rfl⟩
abbrev main_c_17 : Ref sig .tc := ⟨.hbm, 87, rfl⟩
abbrev main_call12_v0 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_c_18 : Ref sig .tc := ⟨.hbm, 92, rfl⟩
abbrev main_call13_v0 : Ref sig .tc := ⟨.hbm, 93, rfl⟩
abbrev main_v47 : Ref sig .tc := ⟨.hbm, 94, rfl⟩
abbrev main_v48 : Ref sig .tc := ⟨.hbm, 95, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := .none

abbrev stage0_0 : Fin 1 → Memref sig .tc .vmem S64x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S80x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev grid1 : Pipeline.Grid := ⟨1, ![16], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x112x128 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8x14336 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S80x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S256x50x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]
-- ==== KernelIdeal.lean ====
variable {F : FTy → Type} [FloatOps F] [Named F]
def κ : String → Option EReal := fun
  | "fifth" => some ((1 / 5 : ℝ) : EReal)
  | _ => none
-- ==== ReferenceIdeal.lean ====
abbrev S4096x50x8 : Shape := ⟨3, ![4096, 50, 8]⟩
abbrev S4096x50x5 : Shape := ⟨3, ![4096, 50, 5]⟩
abbrev S30000x64 : Shape := ⟨2, ![30000, 64]⟩
abbrev S8x16 : Shape := ⟨2, ![8, 16]⟩
abbrev S32x32 : Shape := ⟨2, ![32, 32]⟩
abbrev S64x16 : Shape := ⟨2, ![64, 16]⟩
abbrev S8x8 : Shape := ⟨2, ![8, 8]⟩
abbrev S12000x64 : Shape := ⟨2, ![12000, 64]⟩
abbrev S5 : Shape := ⟨1, ![5]⟩
abbrev S253x256 : Shape := ⟨2, ![253, 256]⟩
abbrev S256 : Shape := ⟨1, ![256]⟩
abbrev S4096x50x1 : Shape := ⟨3, ![4096, 50, 1]⟩
abbrev S4096x50 : Shape := ⟨2, ![4096, 50]⟩
abbrev S_ : Shape := ⟨0, ![]⟩
abbrev S1 : Shape := ⟨1, ![1]⟩
abbrev S1x1x1 : Shape := ⟨3, ![1, 1, 1]⟩
abbrev S4096x50x16 : Shape := ⟨3, ![4096, 50, 16]⟩
abbrev S4096x50x64 : Shape := ⟨3, ![4096, 50, 64]⟩
abbrev S4096x50x32 : Shape := ⟨3, ![4096, 50, 32]⟩
abbrev S1x1x5 : Shape := ⟨3, ![1, 1, 5]⟩
abbrev S4096x50x253 : Shape := ⟨3, ![4096, 50, 253]⟩
abbrev S4096x50x256 : Shape := ⟨3, ![4096, 50, 256]⟩
abbrev S1x1x256 : Shape := ⟨3, ![1, 1, 256]⟩

abbrev nBuf : Space → Nat
  | .hbm => 261
  | .vmem => 0
  | .smem => 0
  | _ => 0

abbrev hbmTy0_0 (i : Nat) : BufTy := match i % 128 with
  | 0 => ⟨S4096x50x8, .i32⟩
  | 1 => ⟨S4096x50x5, .f32⟩
  | 2 => ⟨S30000x64, .f32⟩
  | 3 => ⟨S8x16, .f32⟩
  | 4 => ⟨S32x32, .f32⟩
  | 5 => ⟨S64x16, .f32⟩
  | 6 => ⟨S8x8, .f32⟩
  | 7 => ⟨S12000x64, .f32⟩
  | 8 => ⟨S5, .f32⟩
  | 9 => ⟨S5, .f32⟩
  | 10 => ⟨S253x256, .f32⟩
  | 11 => ⟨S256, .f32⟩
  | 12 => ⟨S4096x50x1, .i32⟩
  | 13 => ⟨S4096x50, .i32⟩
  | 14 => ⟨S_, .i32⟩
  | 15 => ⟨S4096x50, .i32⟩
  | 16 => ⟨S4096x50, .i1⟩
  | 17 => ⟨S_, .i32⟩
  | 18 => ⟨S4096x50, .i32⟩
  | 19 => ⟨S4096x50, .i32⟩
  | 20 => ⟨S4096x50, .i32⟩
  | 21 => ⟨S4096x50x1, .i32⟩
  | 22 => ⟨S1, .i32⟩
  | 23 => ⟨S_, .i32⟩
  | 24 => ⟨S4096x50x1, .i32⟩
  | 25 => ⟨S4096x50x1, .i1⟩
  | 26 => ⟨S1x1x1, .i32⟩
  | 27 => ⟨S4096x50x1, .i32⟩
  | 28 => ⟨S4096x50x1, .i1⟩
  | 29 => ⟨S4096x50x1, .i1⟩
  | 30 => ⟨S_, .i1⟩
  | 31 => ⟨S4096x50, .i1⟩
  | 32 => ⟨S4096x50x16, .f32⟩
  | 33 => ⟨S4096x50x16, .i1⟩
  | 34 => ⟨S_, .f32⟩
  | 35 => ⟨S4096x50x16, .f32⟩
  | 36 => ⟨S4096x50x16, .f32⟩
  | 37 => ⟨S4096x50x1, .i32⟩
  | 38 => ⟨S4096x50, .i32⟩
  | 39 => ⟨S_, .i32⟩
  | 40 => ⟨S4096x50, .i32⟩
  | 41 => ⟨S4096x50, .i1⟩
  | 42 => ⟨S_, .i32⟩
  | 43 => ⟨S4096x50, .i32⟩
  | 44 => ⟨S4096x50, .i32⟩
  | 45 => ⟨S4096x50, .i32⟩
  | 46 => ⟨S4096x50x1, .i32⟩
  | 47 => ⟨S1, .i32⟩
  | 48 => ⟨S_, .i32⟩
  | 49 => ⟨S4096x50x1, .i32⟩
  | 50 => ⟨S4096x50x1, .i1⟩
  | 51 => ⟨S1x1x1, .i32⟩
  | 52 => ⟨S4096x50x1, .i32⟩
  | 53 => ⟨S4096x50x1, .i1⟩
  | 54 => ⟨S4096x50x1, .i1⟩
  | 55 => ⟨S_, .i1⟩
  | 56 => ⟨S4096x50, .i1⟩
  | 57 => ⟨S4096x50x64, .f32⟩
  | 58 => ⟨S4096x50x64, .i1⟩
  | 59 => ⟨S_, .f32⟩
  | 60 => ⟨S4096x50x64, .f32⟩
  | 61 => ⟨S4096x50x64, .f32⟩
  | 62 => ⟨S4096x50x1, .i32⟩
  | 63 => ⟨S4096x50, .i32⟩
  | 64 => ⟨S_, .i32⟩
  | 65 => ⟨S4096x50, .i32⟩
  | 66 => ⟨S4096x50, .i1⟩
  | 67 => ⟨S_, .i32⟩
  | 68 => ⟨S4096x50, .i32⟩
  | 69 => ⟨S4096x50, .i32⟩
  | 70 => ⟨S4096x50, .i32⟩
  | 71 => ⟨S4096x50x1, .i32⟩
  | 72 => ⟨S1, .i32⟩
  | 73 => ⟨S_, .i32⟩
  | 74 => ⟨S4096x50x1, .i32⟩
  | 75 => ⟨S4096x50x1, .i1⟩
  | 76 => ⟨S1x1x1, .i32⟩
  | 77 => ⟨S4096x50x1, .i32⟩
  | 78 => ⟨S4096x50x1, .i1⟩
  | 79 => ⟨S4096x50x1, .i1⟩
  | 80 => ⟨S_, .i1⟩
  | 81 => ⟨S4096x50, .i1⟩
  | 82 => ⟨S4096x50x16, .f32⟩
  | 83 => ⟨S4096x50x16, .i1⟩
  | 84 => ⟨S_, .f32⟩
  | 85 => ⟨S4096x50x16, .f32⟩
  | 86 => ⟨S4096x50x16, .f32⟩
  | 87 => ⟨S4096x50x1, .i32⟩
  | 88 => ⟨S4096x50, .i32⟩
  | 89 => ⟨S_, .i32⟩
  | 90 => ⟨S4096x50, .i32⟩
  | 91 => ⟨S4096x50, .i1⟩
  | 92 => ⟨S_, .i32⟩
  | 93 => ⟨S4096x50, .i32⟩
  | 94 => ⟨S4096x50, .i32⟩
  | 95 => ⟨S4096x50, .i32⟩
  | 96 => ⟨S4096x50x1, .i32⟩
  | 97 => ⟨S1, .i32⟩
  | 98 => ⟨S_, .i32⟩
  | 99 => ⟨S4096x50x1, .i32⟩
  | 100 => ⟨S4096x50x1, .i1⟩
  | 101 => ⟨S1x1x1, .i32⟩
  | 102 => ⟨S4096x50x1, .i32⟩
  | 103 => ⟨S4096x50x1, .i1⟩
  | 104 => ⟨S4096x50x1, .i1⟩
  | 105 => ⟨S_, .i1⟩
  | 106 => ⟨S4096x50, .i1⟩
  | 107 => ⟨S4096x50x8, .f32⟩
  | 108 => ⟨S4096x50x8, .i1⟩
  | 109 => ⟨S_, .f32⟩
  | 110 => ⟨S4096x50x8, .f32⟩
  | 111 => ⟨S4096x50x8, .f32⟩
  | 112 => ⟨S4096x50x1, .i32⟩
  | 113 => ⟨S4096x50, .i32⟩
  | 114 => ⟨S_, .i32⟩
  | 115 => ⟨S4096x50, .i32⟩
  | 116 => ⟨S4096x50, .i1⟩
  | 117 => ⟨S_, .i32⟩
  | 118 => ⟨S4096x50, .i32⟩
  | 119 => ⟨S4096x50, .i32⟩
  | 120 => ⟨S4096x50, .i32⟩
  | 121 => ⟨S4096x50x1, .i32⟩
  | 122 => ⟨S1, .i32⟩
  | 123 => ⟨S_, .i32⟩
  | 124 => ⟨S4096x50x1, .i32⟩
  | 125 => ⟨S4096x50x1, .i1⟩
  | 126 => ⟨S1x1x1, .i32⟩
  | 127 => ⟨S4096x50x1, .i32⟩
  | _ => ⟨S4096x50x8, .i32⟩

abbrev hbmTy0_1 (i : Nat) : BufTy := match i % 128 with
  | 0 => ⟨S4096x50x1, .i1⟩
  | 1 => ⟨S4096x50x1, .i1⟩
  | 2 => ⟨S_, .i1⟩
  | 3 => ⟨S4096x50, .i1⟩
  | 4 => ⟨S4096x50x32, .f32⟩
  | 5 => ⟨S4096x50x32, .i1⟩
  | 6 => ⟨S_, .f32⟩
  | 7 => ⟨S4096x50x32, .f32⟩
  | 8 => ⟨S4096x50x32, .f32⟩
  | 9 => ⟨S4096x50x1, .i32⟩
  | 10 => ⟨S4096x50, .i32⟩
  | 11 => ⟨S_, .i32⟩
  | 12 => ⟨S4096x50, .i32⟩
  | 13 => ⟨S4096x50, .i1⟩
  | 14 => ⟨S_, .i32⟩
  | 15 => ⟨S4096x50, .i32⟩
  | 16 => ⟨S4096x50, .i32⟩
  | 17 => ⟨S4096x50, .i32⟩
  | 18 => ⟨S4096x50x1, .i32⟩
  | 19 => ⟨S1, .i32⟩
  | 20 => ⟨S_, .i32⟩
  | 21 => ⟨S4096x50x1, .i32⟩
  | 22 => ⟨S4096x50x1, .i1⟩
  | 23 => ⟨S1x1x1, .i32⟩
  | 24 => ⟨S4096x50x1, .i32⟩
  | 25 => ⟨S4096x50x1, .i1⟩
  | 26 => ⟨S4096x50x1, .i1⟩
  | 27 => ⟨S_, .i1⟩
  | 28 => ⟨S4096x50, .i1⟩
  | 29 => ⟨S4096x50x64, .f32⟩
  | 30 => ⟨S4096x50x64, .i1⟩
  | 31 => ⟨S_, .f32⟩
  | 32 => ⟨S4096x50x64, .f32⟩
  | 33 => ⟨S4096x50x64, .f32⟩
  | 34 => ⟨S4096x50x1, .i32⟩
  | 35 => ⟨S4096x50, .i32⟩
  | 36 => ⟨S_, .i32⟩
  | 37 => ⟨S4096x50, .i32⟩
  | 38 => ⟨S4096x50, .i1⟩
  | 39 => ⟨S_, .i32⟩
  | 40 => ⟨S4096x50, .i32⟩
  | 41 => ⟨S4096x50, .i32⟩
  | 42 => ⟨S4096x50, .i32⟩
  | 43 => ⟨S4096x50x1, .i32⟩
  | 44 => ⟨S1, .i32⟩
  | 45 => ⟨S_, .i32⟩
  | 46 => ⟨S4096x50x1, .i32⟩
  | 47 => ⟨S4096x50x1, .i1⟩
  | 48 => ⟨S1x1x1, .i32⟩
  | 49 => ⟨S4096x50x1, .i32⟩
  | 50 => ⟨S4096x50x1, .i1⟩
  | 51 => ⟨S4096x50x1, .i1⟩
  | 52 => ⟨S_, .i1⟩
  | 53 => ⟨S4096x50, .i1⟩
  | 54 => ⟨S4096x50x32, .f32⟩
  | 55 => ⟨S4096x50x32, .i1⟩
  | 56 => ⟨S_, .f32⟩
  | 57 => ⟨S4096x50x32, .f32⟩
  | 58 => ⟨S4096x50x32, .f32⟩
  | 59 => ⟨S4096x50x1, .i32⟩
  | 60 => ⟨S4096x50, .i32⟩
  | 61 => ⟨S_, .i32⟩
  | 62 => ⟨S4096x50, .i32⟩
  | 63 => ⟨S4096x50, .i1⟩
  | 64 => ⟨S_, .i32⟩
  | 65 => ⟨S4096x50, .i32⟩
  | 66 => ⟨S4096x50, .i32⟩
  | 67 => ⟨S4096x50, .i32⟩
  | 68 => ⟨S4096x50x1, .i32⟩
  | 69 => ⟨S1, .i32⟩
  | 70 => ⟨S_, .i32⟩
  | 71 => ⟨S4096x50x1, .i32⟩
  | 72 => ⟨S4096x50x1, .i1⟩
  | 73 => ⟨S1x1x1, .i32⟩
  | 74 => ⟨S4096x50x1, .i32⟩
  | 75 => ⟨S4096x50x1, .i1⟩
  | 76 => ⟨S4096x50x1, .i1⟩
  | 77 => ⟨S_, .i1⟩
  | 78 => ⟨S4096x50, .i1⟩
  | 79 => ⟨S4096x50x16, .f32⟩
  | 80 => ⟨S4096x50x16, .i1⟩
  | 81 => ⟨S_, .f32⟩
  | 82 => ⟨S4096x50x16, .f32⟩
  | 83 => ⟨S4096x50x16, .f32⟩
  | 84 => ⟨S_, .f32⟩
  | 85 => ⟨S4096x50, .f32⟩
  | 86 => ⟨S4096x50x1, .f32⟩
  | 87 => ⟨S_, .f32⟩
  | 88 => ⟨S4096x50x1, .f32⟩
  | 89 => ⟨S4096x50x1, .f32⟩
  | 90 => ⟨S_, .i32⟩
  | 91 => ⟨S_, .f32⟩
  | 92 => ⟨S4096x50, .f32⟩
  | 93 => ⟨S4096x50x1, .f32⟩
  | 94 => ⟨S_, .f32⟩
  | 95 => ⟨S4096x50x1, .f32⟩
  | 96 => ⟨S4096x50x1, .f32⟩
  | 97 => ⟨S4096x50x5, .f32⟩
  | 98 => ⟨S4096x50x5, .f32⟩
  | 99 => ⟨S4096x50x5, .f32⟩
  | 100 => ⟨S_, .f32⟩
  | 101 => ⟨S_, .f32⟩
  | 102 => ⟨S_, .f32⟩
  | 103 => ⟨S_, .f32⟩
  | 104 => ⟨S4096x50, .f32⟩
  | 105 => ⟨S4096x50x1, .f32⟩
  | 106 => ⟨S4096x50x1, .f32⟩
  | 107 => ⟨S4096x50x1, .f32⟩
  | 108 => ⟨S_, .f32⟩
  | 109 => ⟨S_, .i1⟩
  | 110 => ⟨S_, .f32⟩
  | 111 => ⟨S_, .f32⟩
  | 112 => ⟨S4096x50x1, .f32⟩
  | 113 => ⟨S4096x50x1, .f32⟩
  | 114 => ⟨S4096x50x5, .f32⟩
  | 115 => ⟨S4096x50x5, .f32⟩
  | 116 => ⟨S_, .f32⟩
  | 117 => ⟨S4096x50x1, .f32⟩
  | 118 => ⟨S4096x50x1, .f32⟩
  | 119 => ⟨S4096x50x1, .f32⟩
  | 120 => ⟨S4096x50x5, .f32⟩
  | 121 => ⟨S4096x50x5, .f32⟩
  | 122 => ⟨S1x1x5, .f32⟩
  | 123 => ⟨S4096x50x5, .f32⟩
  | 124 => ⟨S4096x50x5, .f32⟩
  | 125 => ⟨S1x1x5, .f32⟩
  | 126 => ⟨S4096x50x5, .f32⟩
  | 127 => ⟨S4096x50x5, .f32⟩
  | _ => ⟨S4096x50x8, .i32⟩

abbrev hbmTy0_2 (i : Nat) : BufTy := match i % 128 with
  | 0 => ⟨S4096x50x253, .f32⟩
  | 1 => ⟨S4096x50x256, .f32⟩
  | 2 => ⟨S1x1x256, .f32⟩
  | 3 => ⟨S4096x50x256, .f32⟩
  | 4 => ⟨S4096x50x256, .f32⟩
  | _ => ⟨S4096x50x8, .i32⟩

abbrev hbmTy (i : Nat) : BufTy := match i / 128 with
  | 0 => hbmTy0_0 i
  | 1 => hbmTy0_1 i
  | 2 => hbmTy0_2 i
  | _ => ⟨S4096x50x8, .i32⟩

abbrev bufTy : (tb : Table) → Fin (tcTables nBuf tb) → BufTy
  | .hbm, ⟨i, _⟩ => hbmTy i
  | _, _ => ⟨S4096x50x8, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_call0_c : Ref sig .tc := ⟨.hbm, 14, rfl⟩
abbrev main_call0_v0 : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_c_1 : Ref sig .tc := ⟨.hbm, 22, rfl⟩
abbrev main_call0_c_2 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_3 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_call0_cst : Ref sig .tc := ⟨.hbm, 34, rfl⟩
abbrev main_call0_v15 : Ref sig .tc := ⟨.hbm, 35, rfl⟩
abbrev main_v2 : Ref sig .tc := ⟨.hbm, 36, rfl⟩
abbrev main_v3 : Ref sig .tc := ⟨.hbm, 37, rfl⟩
abbrev main_v4 : Ref sig .tc := ⟨.hbm, 38, rfl⟩
abbrev main_call1_c : Ref sig .tc := ⟨.hbm, 39, rfl⟩
abbrev main_call1_v0 : Ref sig .tc := ⟨.hbm, 40, rfl⟩
abbrev main_call1_v1 : Ref sig .tc := ⟨.hbm, 41, rfl⟩
abbrev main_call1_c_0 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_v5 : Ref sig .tc := ⟨.hbm, 46, rfl⟩
abbrev main_call1_c_1 : Ref sig .tc := ⟨.hbm, 47, rfl⟩
abbrev main_call1_c_2 : Ref sig .tc := ⟨.hbm, 48, rfl⟩
abbrev main_call1_v6 : Ref sig .tc := ⟨.hbm, 49, rfl⟩
abbrev main_call1_v7 : Ref sig .tc := ⟨.hbm, 50, rfl⟩
abbrev main_call1_v8 : Ref sig .tc := ⟨.hbm, 51, rfl⟩
abbrev main_call1_v9 : Ref sig .tc := ⟨.hbm, 52, rfl⟩
abbrev main_call1_v10 : Ref sig .tc := ⟨.hbm, 53, rfl⟩
abbrev main_call1_v11 : Ref sig .tc := ⟨.hbm, 54, rfl⟩
abbrev main_call1_c_3 : Ref sig .tc := ⟨.hbm, 55, rfl⟩
abbrev main_call1_v12 : Ref sig .tc := ⟨.hbm, 56, rfl⟩
abbrev main_call1_v13 : Ref sig .tc := ⟨.hbm, 57, rfl⟩
abbrev main_call1_v14 : Ref sig .tc := ⟨.hbm, 58, rfl⟩
abbrev main_call1_cst : Ref sig .tc := ⟨.hbm, 59, rfl⟩
abbrev main_call1_v15 : Ref sig .tc := ⟨.hbm, 60, rfl⟩
abbrev main_v5 : Ref sig .tc := ⟨.hbm, 61, rfl⟩
abbrev main_v6 : Ref sig .tc := ⟨.hbm, 62, rfl⟩
abbrev main_v7 : Ref sig .tc := ⟨.hbm, 63, rfl⟩
abbrev main_call2_c : Ref sig .tc := ⟨.hbm, 64, rfl⟩
abbrev main_call2_v0 : Ref sig .tc := ⟨.hbm, 65, rfl⟩
abbrev main_call2_v1 : Ref sig .tc := ⟨.hbm, 66, rfl⟩
abbrev main_call2_c_0 : Ref sig .tc := ⟨.hbm, 67, rfl⟩
abbrev main_call2_v2 : Ref sig .tc := ⟨.hbm, 68, rfl⟩
abbrev main_call2_v3 : Ref sig .tc := ⟨.hbm, 69, rfl⟩
abbrev main_call2_v4 : Ref sig .tc := ⟨.hbm, 70, rfl⟩
abbrev main_call2_v5 : Ref sig .tc := ⟨.hbm, 71, rfl⟩
abbrev main_call2_c_1 : Ref sig .tc := ⟨.hbm, 72, rfl⟩
abbrev main_call2_c_2 : Ref sig .tc := ⟨.hbm, 73, rfl⟩
abbrev main_call2_v6 : Ref sig .tc := ⟨.hbm, 74, rfl⟩
abbrev main_call2_v7 : Ref sig .tc := ⟨.hbm, 75, rfl⟩
abbrev main_call2_v8 : Ref sig .tc := ⟨.hbm, 76, rfl⟩
abbrev main_call2_v9 : Ref sig .tc := ⟨.hbm, 77, rfl⟩
abbrev main_call2_v10 : Ref sig .tc := ⟨.hbm, 78, rfl⟩
abbrev main_call2_v11 : Ref sig .tc := ⟨.hbm, 79, rfl⟩
abbrev main_call2_c_3 : Ref sig .tc := ⟨.hbm, 80, rfl⟩
abbrev main_call2_v12 : Ref sig .tc := ⟨.hbm, 81, rfl⟩
abbrev main_call2_v13 : Ref sig .tc := ⟨.hbm, 82, rfl⟩
abbrev main_call2_v14 : Ref sig .tc := ⟨.hbm, 83, rfl⟩
abbrev main_call2_cst : Ref sig .tc := ⟨.hbm, 84, rfl⟩
abbrev main_call2_v15 : Ref sig .tc := ⟨.hbm, 85, rfl⟩
abbrev main_v8 : Ref sig .tc := ⟨.hbm, 86, rfl⟩
abbrev main_v9 : Ref sig .tc := ⟨.hbm, 87, rfl⟩
abbrev main_v10 : Ref sig .tc := ⟨.hbm, 88, rfl⟩
abbrev main_call3_c : Ref sig .tc := ⟨.hbm, 89, rfl⟩
abbrev main_call3_v0 : Ref sig .tc := ⟨.hbm, 90, rfl⟩
abbrev main_call3_v1 : Ref sig .tc := ⟨.hbm, 91, rfl⟩
abbrev main_call3_c_0 : Ref sig .tc := ⟨.hbm, 92, rfl⟩
abbrev main_call3_v2 : Ref sig .tc := ⟨.hbm, 93, rfl⟩
abbrev main_call3_v3 : Ref sig .tc := ⟨.hbm, 94, rfl⟩
abbrev main_call3_v4 : Ref sig .tc := ⟨.hbm, 95, rfl⟩
abbrev main_call3_v5 : Ref sig .tc := ⟨.hbm, 96, rfl⟩
abbrev main_call3_c_1 : Ref sig .tc := ⟨.hbm, 97, rfl⟩
abbrev main_call3_c_2 : Ref sig .tc := ⟨.hbm, 98, rfl⟩
abbrev main_call3_v6 : Ref sig .tc := ⟨.hbm, 99, rfl⟩
abbrev main_call3_v7 : Ref sig .tc := ⟨.hbm, 100, rfl⟩
abbrev main_call3_v8 : Ref sig .tc := ⟨.hbm, 101, rfl⟩
abbrev main_call3_v9 : Ref sig .tc := ⟨.hbm, 102, rfl⟩
abbrev main_call3_v10 : Ref sig .tc := ⟨.hbm, 103, rfl⟩
abbrev main_call3_v11 : Ref sig .tc := ⟨.hbm, 104, rfl⟩
abbrev main_call3_c_3 : Ref sig .tc := ⟨.hbm, 105, rfl⟩
abbrev main_call3_v12 : Ref sig .tc := ⟨.hbm, 106, rfl⟩
abbrev main_call3_v13 : Ref sig .tc := ⟨.hbm, 107, rfl⟩
abbrev main_call3_v14 : Ref sig .tc := ⟨.hbm, 108, rfl⟩
abbrev main_call3_cst : Ref sig .tc := ⟨.hbm, 109, rfl⟩
abbrev main_call3_v15 : Ref sig .tc := ⟨.hbm, 110, rfl⟩
abbrev main_v11 : Ref sig .tc := ⟨.hbm, 111, rfl⟩
abbrev main_v12 : Ref sig .tc := ⟨.hbm, 112, rfl⟩
abbrev main_v13 : Ref sig .tc := ⟨.hbm, 113, rfl⟩
abbrev main_call4_c : Ref sig .tc := ⟨.hbm, 114, rfl⟩
abbrev main_call4_v0 : Ref sig .tc := ⟨.hbm, 115, rfl⟩
abbrev main_call4_v1 : Ref sig .tc := ⟨.hbm, 116, rfl⟩
abbrev main_call4_c_0 : Ref sig .tc := ⟨.hbm, 117, rfl⟩
abbrev main_call4_v2 : Ref sig .tc := ⟨.hbm, 118, rfl⟩
abbrev main_call4_v3 : Ref sig .tc := ⟨.hbm, 119, rfl⟩
abbrev main_call4_v4 : Ref sig .tc := ⟨.hbm, 120, rfl⟩
abbrev main_call4_v5 : Ref sig .tc := ⟨.hbm, 121, rfl⟩
abbrev main_call4_c_1 : Ref sig .tc := ⟨.hbm, 122, rfl⟩
abbrev main_call4_c_2 : Ref sig .tc := ⟨.hbm, 123, rfl⟩
abbrev main_call4_v6 : Ref sig .tc := ⟨.hbm, 124, rfl⟩
abbrev main_call4_v7 : Ref sig .tc := ⟨.hbm, 125, rfl⟩
abbrev main_call4_v8 : Ref sig .tc := ⟨.hbm, 126, rfl⟩
abbrev main_call4_v9 : Ref sig .tc := ⟨.hbm, 127, rfl⟩
abbrev main_call4_v10 : Ref sig .tc := ⟨.hbm, 128, rfl⟩
abbrev main_call4_v11 : Ref sig .tc := ⟨.hbm, 129, rfl⟩
abbrev main_call4_c_3 : Ref sig .tc := ⟨.hbm, 130, rfl⟩
abbrev main_call4_v12 : Ref sig .tc := ⟨.hbm, 131, rfl⟩
abbrev main_call4_v13 : Ref sig .tc := ⟨.hbm, 132, rfl⟩
abbrev main_call4_v14 : Ref sig .tc := ⟨.hbm, 133, rfl⟩
abbrev main_call4_cst : Ref sig .tc := ⟨.hbm, 134, rfl⟩
abbrev main_call4_v15 : Ref sig .tc := ⟨.hbm, 135, rfl⟩
abbrev main_v14 : Ref sig .tc := ⟨.hbm, 136, rfl⟩
abbrev main_v15 : Ref sig .tc := ⟨.hbm, 137, rfl⟩
abbrev main_v16 : Ref sig .tc := ⟨.hbm, 138, rfl⟩
abbrev main_call5_c : Ref sig .tc := ⟨.hbm, 139, rfl⟩
abbrev main_call5_v0 : Ref sig .tc := ⟨.hbm, 140, rfl⟩
abbrev main_call5_v1 : Ref sig .tc := ⟨.hbm, 141, rfl⟩
abbrev main_call5_c_0 : Ref sig .tc := ⟨.hbm, 142, rfl⟩
abbrev main_call5_v2 : Ref sig .tc := ⟨.hbm, 143, rfl⟩
abbrev main_call5_v3 : Ref sig .tc := ⟨.hbm, 144, rfl⟩
abbrev main_call5_v4 : Ref sig .tc := ⟨.hbm, 145, rfl⟩
abbrev main_call5_v5 : Ref sig .tc := ⟨.hbm, 146, rfl⟩
abbrev main_call5_c_1 : Ref sig .tc := ⟨.hbm, 147, rfl⟩
abbrev main_call5_c_2 : Ref sig .tc := ⟨.hbm, 148, rfl⟩
abbrev main_call5_v6 : Ref sig .tc := ⟨.hbm, 149, rfl⟩
abbrev main_call5_v7 : Ref sig .tc := ⟨.hbm, 150, rfl⟩
abbrev main_call5_v8 : Ref sig .tc := ⟨.hbm, 151, rfl⟩
abbrev main_call5_v9 : Ref sig .tc := ⟨.hbm, 152, rfl⟩
abbrev main_call5_v10 : Ref sig .tc := ⟨.hbm, 153, rfl⟩
abbrev main_call5_v11 : Ref sig .tc := ⟨.hbm, 154, rfl⟩
abbrev main_call5_c_3 : Ref sig .tc := ⟨.hbm, 155, rfl⟩
abbrev main_call5_v12 : Ref sig .tc := ⟨.hbm, 156, rfl⟩
abbrev main_call5_v13 : Ref sig .tc := ⟨.hbm, 157, rfl⟩
abbrev main_call5_v14 : Ref sig .tc := ⟨.hbm, 158, rfl⟩
abbrev main_call5_cst : Ref sig .tc := ⟨.hbm, 159, rfl⟩
abbrev main_call5_v15 : Ref sig .tc := ⟨.hbm, 160, rfl⟩
abbrev main_v17 : Ref sig .tc := ⟨.hbm, 161, rfl⟩
abbrev main_v18 : Ref sig .tc := ⟨.hbm, 162, rfl⟩
abbrev main_v19 : Ref sig .tc := ⟨.hbm, 163, rfl⟩
abbrev main_call6_c : Ref sig .tc := ⟨.hbm, 164, rfl⟩
abbrev main_call6_v0 : Ref sig .tc := ⟨.hbm, 165, rfl⟩
abbrev main_call6_v1 : Ref sig .tc := ⟨.hbm, 166, rfl⟩
abbrev main_call6_c_0 : Ref sig .tc := ⟨.hbm, 167, rfl⟩
abbrev main_call6_v2 : Ref sig .tc := ⟨.hbm, 168, rfl⟩
abbrev main_call6_v3 : Ref sig .tc := ⟨.hbm, 169, rfl⟩
abbrev main_call6_v4 : Ref sig .tc := ⟨.hbm, 170, rfl⟩
abbrev main_call6_v5 : Ref sig .tc := ⟨.hbm, 171, rfl⟩
abbrev main_call6_c_1 : Ref sig .tc := ⟨.hbm, 172, rfl⟩
abbrev main_call6_c_2 : Ref sig .tc := ⟨.hbm, 173, rfl⟩
abbrev main_call6_v6 : Ref sig .tc := ⟨.hbm, 174, rfl⟩
abbrev main_call6_v7 : Ref sig .tc := ⟨.hbm, 175, rfl⟩
abbrev main_call6_v8 : Ref sig .tc := ⟨.hbm, 176, rfl⟩
abbrev main_call6_v9 : Ref sig .tc := ⟨.hbm, 177, rfl⟩
abbrev main_call6_v10 : Ref sig .tc := ⟨.hbm, 178, rfl⟩
abbrev main_call6_v11 : Ref sig .tc := ⟨.hbm, 179, rfl⟩
abbrev main_call6_c_3 : Ref sig .tc := ⟨.hbm, 180, rfl⟩
abbrev main_call6_v12 : Ref sig .tc := ⟨.hbm, 181, rfl⟩
abbrev main_call6_v13 : Ref sig .tc := ⟨.hbm, 182, rfl⟩
abbrev main_call6_v14 : Ref sig .tc := ⟨.hbm, 183, rfl⟩
abbrev main_call6_cst : Ref sig .tc := ⟨.hbm, 184, rfl⟩
abbrev main_call6_v15 : Ref sig .tc := ⟨.hbm, 185, rfl⟩
abbrev main_v20 : Ref sig .tc := ⟨.hbm, 186, rfl⟩
abbrev main_v21 : Ref sig .tc := ⟨.hbm, 187, rfl⟩
abbrev main_v22 : Ref sig .tc := ⟨.hbm, 188, rfl⟩
abbrev main_call7_c : Ref sig .tc := ⟨.hbm, 189, rfl⟩
abbrev main_call7_v0 : Ref sig .tc := ⟨.hbm, 190, rfl⟩
abbrev main_call7_v1 : Ref sig .tc := ⟨.hbm, 191, rfl⟩
abbrev main_call7_c_0 : Ref sig .tc := ⟨.hbm, 192, rfl⟩
abbrev main_call7_v2 : Ref sig .tc := ⟨.hbm, 193, rfl⟩
abbrev main_call7_v3 : Ref sig .tc := ⟨.hbm, 194, rfl⟩
abbrev main_call7_v4 : Ref sig .tc := ⟨.hbm, 195, rfl⟩
abbrev main_call7_v5 : Ref sig .tc := ⟨.hbm, 196, rfl⟩
abbrev main_call7_c_1 : Ref sig .tc := ⟨.hbm, 197, rfl⟩
abbrev main_call7_c_2 : Ref sig .tc := ⟨.hbm, 198, rfl⟩
abbrev main_call7_v6 : Ref sig .tc := ⟨.hbm, 199, rfl⟩
abbrev main_call7_v7 : Ref sig .tc := ⟨.hbm, 200, rfl⟩
abbrev main_call7_v8 : Ref sig .tc := ⟨.hbm, 201, rfl⟩
abbrev main_call7_v9 : Ref sig .tc := ⟨.hbm, 202, rfl⟩
abbrev main_call7_v10 : Ref sig .tc := ⟨.hbm, 203, rfl⟩
abbrev main_call7_v11 : Ref sig .tc := ⟨.hbm, 204, rfl⟩
abbrev main_call7_c_3 : Ref sig .tc := ⟨.hbm, 205, rfl⟩
abbrev main_call7_v12 : Ref sig .tc := ⟨.hbm, 206, rfl⟩
abbrev main_call7_v13 : Ref sig .tc := ⟨.hbm, 207, rfl⟩
abbrev main_call7_v14 : Ref sig .tc := ⟨.hbm, 208, rfl⟩
abbrev main_call7_cst : Ref sig .tc := ⟨.hbm, 209, rfl⟩
abbrev main_call7_v15 : Ref sig .tc := ⟨.hbm, 210, rfl⟩
abbrev main_v23 : Ref sig .tc := ⟨.hbm, 211, rfl⟩
abbrev main_cst : Ref sig .tc := ⟨.hbm, 212, rfl⟩
abbrev main_v24 : Ref sig .tc := ⟨.hbm, 213, rfl⟩
abbrev main_v25 : Ref sig .tc := ⟨.hbm, 214, rfl⟩
abbrev main_cst_0 : Ref sig .tc := ⟨.hbm, 215, rfl⟩
abbrev main_v26 : Ref sig .tc := ⟨.hbm, 216, rfl⟩
abbrev main_v27 : Ref sig .tc := ⟨.hbm, 217, rfl⟩
abbrev main_c : Ref sig .tc := ⟨.hbm, 218, rfl⟩
abbrev main_call8_cst : Ref sig .tc := ⟨.hbm, 219, rfl⟩
abbrev main_call8_v0 : Ref sig .tc := ⟨.hbm, 220, rfl⟩
abbrev main_call8_v1 : Ref sig .tc := ⟨.hbm, 221, rfl⟩
abbrev main_call8_cst_0 : Ref sig .tc := ⟨.hbm, 222, rfl⟩
abbrev main_call8_v2 : Ref sig .tc := ⟨.hbm, 223, rfl⟩
abbrev main_call8_v3 : Ref sig .tc := ⟨.hbm, 224, rfl⟩
abbrev main_call8_v4 : Ref sig .tc := ⟨.hbm, 225, rfl⟩
abbrev main_call8_v5 : Ref sig .tc := ⟨.hbm, 226, rfl⟩
abbrev main_call8_v6 : Ref sig .tc := ⟨.hbm, 227, rfl⟩
abbrev main_call8_v7 : Ref sig .tc := ⟨.hbm, 228, rfl⟩
abbrev main_call8_cst_1 : Ref sig .tc := ⟨.hbm, 229, rfl⟩
abbrev main_call8_v8 : Ref sig .tc := ⟨.hbm, 230, rfl⟩
abbrev main_call8_cst_2 : Ref sig .tc := ⟨.hbm, 231, rfl⟩
abbrev main_call8_v9 : Ref sig .tc := ⟨.hbm, 232, rfl⟩
abbrev main_call8_v10 : Ref sig .tc := ⟨.hbm, 233, rfl⟩
abbrev main_call8_v11 : Ref sig .tc := ⟨.hbm, 234, rfl⟩
abbrev main_call8_v12 : Ref sig .tc := ⟨.hbm, 235, rfl⟩
abbrev main_call8_cst_3 : Ref sig .tc := ⟨.hbm, 236, rfl⟩
abbrev main_call8_v13 : Ref sig .tc := ⟨.hbm, 237, rfl⟩
abbrev main_call8_cst_4 : Ref sig .tc := ⟨.hbm, 238, rfl⟩
abbrev main_call8_call0_v0 : Ref sig .tc := ⟨.hbm, 239, rfl⟩
abbrev main_call8_call0_v1 : Ref sig .tc := ⟨.hbm, 240, rfl⟩
abbrev main_v28 : Ref sig .tc := ⟨.hbm, 241, rfl⟩
abbrev main_v29 : Ref sig .tc := ⟨.hbm, 242, rfl⟩
abbrev main_v30 : Ref sig .tc := ⟨.hbm, 243, rfl⟩
abbrev main_cst_1 : Ref sig .tc := ⟨.hbm, 244, rfl⟩
abbrev main_v31 : Ref sig .tc := ⟨.hbm, 245, rfl⟩
abbrev main_v32 : Ref sig .tc := ⟨.hbm, 246, rfl⟩
abbrev main_v33 : Ref sig .tc := ⟨.hbm, 247, rfl⟩
abbrev main_v34 : Ref sig .tc := ⟨.hbm, 248, rfl⟩
abbrev main_v35 : Ref sig .tc := ⟨.hbm, 249, rfl⟩
abbrev main_v36 : Ref sig .tc := ⟨.hbm, 250, rfl⟩
abbrev main_v37 : Ref sig .tc := ⟨.hbm, 251, rfl⟩
abbrev main_v38 : Ref sig .tc := ⟨.hbm, 252, rfl⟩
abbrev main_v39 : Ref sig .tc := ⟨.hbm, 253, rfl⟩
abbrev main_v40 : Ref sig .tc := ⟨.hbm, 254, rfl⟩
abbrev main_v41 : Ref sig .tc := ⟨.hbm, 255, rfl⟩
abbrev main_v42 : Ref sig .tc := ⟨.hbm, 256, rfl⟩
abbrev main_v43 : Ref sig .tc := ⟨.hbm, 257, rfl⟩
abbrev main_v44 : Ref sig .tc := ⟨.hbm, 258, rfl⟩
abbrev main_v45 : Ref sig .tc := ⟨.hbm, 259, rfl⟩
abbrev main_v46 : Ref sig .tc := ⟨.hbm, 260, rfl⟩

abbrev nD : Nat := 1
abbrev τ : Topo := Topo.v7x

variable {F : FTy → Type} [FloatOps F]
-- ==== Proof.Frames.lean ====
/- The claims that hold without a precondition: the three frames, and the preservation of the kernel's constant. -/
module

public import proofs.«01_k».proof.Defs
public import proofs.«01_k».proof.Proof.Gen.Kernel.Frame
public import proofs.«01_k».proof.Proof.Gen.KernelIdeal.Frame
public import proofs.«01_k».proof.Proof.Gen.ReferenceIdeal.Run

@[expose] public section

noncomputable section

namespace Cert.Frames

open Idealize.ShloMosaic Idealize.SL.Sem

/-- The side conditions of the precondition's operations hold. -/
theorem pre_facts : Cert.Pre_in_range_and_finite.Facts where
  bcast_S_S4096x50x8 := by decide
  bcast_S_S4096x50x5 := by decide
  bcast_S_S5 := by decide
  slices_S253x256_S5x256_248_0 := by decide
  bcast_S_S5x256 := by decide

/-- The kernel terminates, leaves its arguments as they were and every counter at zero. -/
theorem kernel : Cert.quiescent_Kernel := fun m g _ => Cert.Kernel.Gen.frame m g

/-- The idealized kernel does the same. -/
theorem kernelIdeal : Cert.quiescent_KernelIdeal := fun m g _ => Cert.KernelIdeal.Gen.frame m g

/-- The reference's signature has no semaphore. -/
theorem no_counter (s : SemLoc Cert.ReferenceIdeal.sig) : False := by
  revert s; decide

/-- The reference terminates, leaves its arguments as they were and every counter at zero. -/
theorem referenceIdeal : Cert.quiescent_ReferenceIdeal := fun m g _ =>
  (θ_run _ _ _).mono (fun _ h => ⟨fun c => (h c).2, funext fun s => (no_counter s.2).elim⟩)
    (Cert.ReferenceIdeal.Value.run m g)

/-- The word standing for the fifth names the real number one fifth. -/
theorem preserves : Cert.preserves_Kernel_KernelIdeal :=
  IdealRules.named_const.statement Cert.KernelIdeal.κ "fifth" .f32 0x3E4CCCCD#32 ((1 / 5 : ℝ) : EReal) rfl

end Cert.Frames

end
-- ==== Proof.KernelRun.lean ====
/- The run of the kernel's program, stated at its result array: what `Gen.frame` says of the arguments, said also of
   `main_v48`, which ends holding the last boundary's contents `Gen.W31`. -/
module

public import proofs.«01_k».proof.Proof.Gen.KernelIdeal.Frame

@[expose] public section

set_option maxRecDepth 16384

noncomputable section

namespace Cert.KernelIdeal.Launch

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters the program terminates on every device with each unscoped buffer at the last
    boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W31 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := by repeat' (first | exact fun _ => .rfl | refine ⟨fun _ => .rfl, ?_⟩))
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W31 m ρ c b)
    (hfin := fun c s' => by
      iintro ⟨⟨Hh, -⟩, HSI⟩
      unfold StableHlo.held
      imodintro
      iapply (pointsTo_read_all (Pipeline.ucRefs τ sig) (fun b => (((c : Thread nD τ)).1, b)) (W31 m ρ c) s')
      isplitl [Hh] <;> iassumption)
    (hQ := fun _ h _ => h)

/-- The result array ends at the last boundary's contents. -/
theorem run_out : θ_run defs (onTc (τ := τ) (main (F := F))) ⟨m, fun _ => 0, ρ⟩ (fun r => ∀ c : Dev nD,
      r.2.mem ((c.tc : Thread nD τ).loc main_v48) = W31 m ρ c main_v48) :=
  (θ_run defs _ _).mono (fun _ h c => h c _ (mem_uc main_v48 (by decide))) (run_all m ρ)

end Cert.KernelIdeal.Launch

end
-- ==== Proof.Precondition.lean ====
/-
  The precondition read back: every category is below eight; the numeric features, their scale and the last five
  rows of the weights are real numbers.
-/
module

public import proofs.«01_k».proof.Proof.Frames
public import Idealize.ShloMosaic.Lib.StableHlo.Predicate
public import Idealize.ShloMosaic.Lib.Pointwise

@[expose] public section

set_option maxRecDepth 16384

noncomputable section

namespace Cert.Precondition

open Idealize.ShloMosaic Cert.Pre_in_range_and_finite

/-- A number whose magnitude is below infinity is a real number. -/
theorem real_of_below (x : EReal) (h : FloatOps.cmpf (F := Ideal) (φ := .f32) .olt (max x (-x)) (Ideal.ofBits .f32 0x7F800000#32) = 1#1) :
    ∃ r : ℝ, x = (r : EReal) := by
  have ht : Ideal.ofBits .f32 0x7F800000#32 = (⊤ : EReal) := by simp [Ideal.ofBits, Ideal.ieee]
  have hlt : max x (-x) < (⊤ : EReal) := by
    rw [ht] at h
    by_contra hn
    simp [Ideal.cmpf_def, Ideal.cmp, hn] at h
  induction x using EReal.rec with
  | bot => simp at hlt
  | coe r => exact ⟨r, rfl⟩
  | top => simp at hlt

/-- A word between 0 and 7 as a signed number is below eight. -/
theorem below_eight (w : BitVec 32) (h : IntOp.andi (IntOp.cmpi .sge w 0#32) (IntOp.cmpi .slt w 8#32) = 1#1) : w.toNat < 8 := by
  obtain ⟨h1, h2⟩ : IntOp.cmpi .sge w 0#32 = 1#1 ∧ IntOp.cmpi .slt w 8#32 = 1#1 := IntOp.andi_eq_one.1 h
  rw [IntOp.cmpi_sge] at h1
  rw [IntOp.cmpi_slt] at h2
  have e0 : (0#32 : BitVec 32).toInt = 0 := by decide
  have e8 : (8#32 : BitVec 32).toInt = 8 := by decide
  have := BitVec.toInt_eq_toNat_cond w
  have := w.isLt
  split_ifs at * <;> omega

variable [Facts] (a0 : Vec Ideal S4096x50x8 .i32) (a1 : Vec Ideal S4096x50x5 .f32) (a2 : Vec Ideal S30000x64 .f32)
  (a3 : Vec Ideal S8x16 .f32) (a4 : Vec Ideal S32x32 .f32) (a5 : Vec Ideal S64x16 .f32) (a6 : Vec Ideal S8x8 .f32)
  (a7 : Vec Ideal S12000x64 .f32) (a8 a9 : Vec Ideal S5 .f32) (a10 : Vec Ideal S253x256 .f32) (a11 : Vec Ideal S256 .f32)

/-- Every category is below eight. -/
theorem categories (h : (fn (F := Ideal) a0 a1 a2 a3 a4 a5 a6 a7 a8 a9 a10 a11).1 = fun _ => 1#1) (i : S4096x50x8.Idx) :
    (a0 i).toNat < 8 := by
  refine below_eight _ ?_
  have h1 := congrFun h i
  unfold fn at h1
  exact h1

/-- The numeric features are real numbers. -/
theorem numbers (h : (fn (F := Ideal) a0 a1 a2 a3 a4 a5 a6 a7 a8 a9 a10 a11).2.1 = fun _ => 1#1) (i : S4096x50x5.Idx) :
    ∃ r : ℝ, a1 i = (r : EReal) := by
  refine real_of_below _ ?_
  have h1 := congrFun h i
  unfold fn at h1
  exact h1

/-- The scales are real numbers. -/
theorem scales (h : (fn (F := Ideal) a0 a1 a2 a3 a4 a5 a6 a7 a8 a9 a10 a11).2.2.1 = fun _ => 1#1) (i : S5.Idx) :
    ∃ r : ℝ, a8 i = (r : EReal) := by
  refine real_of_below _ ?_
  have h1 := congrFun h i
  unfold fn at h1
  exact h1

/-- The last five rows of the weights are real numbers. -/
theorem last_weights (h : (fn (F := Ideal) a0 a1 a2 a3 a4 a5 a6 a7 a8 a9 a10 a11).2.2.2 = fun _ => 1#1)
    (k : Fin 5) (d : Fin 256) : ∃ r : ℝ, a10 (ix2 ⟨248 + k.val, by omega⟩ d) = (r : EReal) := by
  refine real_of_below _ ?_
  have h1 := congrFun h (ix2 k d)
  unfold fn at h1
  have e : extractStridedSlice S5x256 ![248, 0] a10 Facts.slices_S253x256_S5x256_248_0 (ix2 k d)
      = a10 (ix2 ⟨248 + k.val, by omega⟩ d) := by pointwise []
  rw [← e]
  exact h1

end Cert.Precondition

end
-- ==== Proof.HostPrep.lean ====
/-
  The arrays that the first launch reads, computed before it from the arguments.
-/
module

public import proofs.«01_k».proof.Proof.Gen.KernelIdeal.Frame
public import Idealize.ShloMosaic.Lib.Claim
public import Idealize.ShloMosaic.Lib.Pointwise

@[expose] public section

set_option maxRecDepth 16384

noncomputable section

namespace Cert.KernelIdeal.HostPrep

open Idealize.ShloMosaic Idealize.ShloMosaic.TcCoe Idealize.SL.Sem Cert.KernelIdeal Cert.KernelIdeal.Gen

/-- The padding value: the integer zero as a float. -/
def fill : FVec Ideal S_ .f32 := sitofp .f32 (constantI S_ 32 0#32)

/-! ### The eight small tables, each placed at its columns of a row of 256 -/

/-- The first eight rows of the position table, at columns `[0, 64)`. -/
def pos (t : Vec Ideal S30000x64 .f32) : Vec Ideal S8x256 .f32 :=
  pad S8x256 ![0, 0] ![0, 192] ![0, 0] (extractStridedSlice S8x64 ![0, 0] t slices_S30000x64_S8x64_0_0) fill pads_S8x64_S8x256_000_01920 h_S_
/-- The first eight rows of the base table, for the base before, at columns `[64, 80)`. -/
def baseBefore (t : Vec Ideal S8x16 .f32) : Vec Ideal S8x256 .f32 :=
  pad S8x256 ![0, 64] ![0, 176] ![0, 0] t fill pads_S8x16_S8x256_000_641760 h_S_
/-- The first eight rows of the base table, for the base after, at columns `[80, 96)`. -/
def baseAfter (t : Vec Ideal S8x16 .f32) : Vec Ideal S8x256 .f32 :=
  pad S8x256 ![0, 80] ![0, 160] ![0, 0] t fill pads_S8x16_S8x256_000_801600 h_S_
/-- The first eight rows of the amino-acid table, for the one before, at columns `[96, 128)`. -/
def aaBefore (t : Vec Ideal S32x32 .f32) : Vec Ideal S8x256 .f32 :=
  pad S8x256 ![0, 96] ![0, 128] ![0, 0] (extractStridedSlice S8x32 ![0, 0] t slices_S32x32_S8x32_0_0) fill pads_S8x32_S8x256_000_961280 h_S_
/-- The first eight rows of the amino-acid table, for the one after, at columns `[128, 160)`. -/
def aaAfter (t : Vec Ideal S32x32 .f32) : Vec Ideal S8x256 .f32 :=
  pad S8x256 ![0, 128] ![0, 96] ![0, 0] (extractStridedSlice S8x32 ![0, 0] t slices_S32x32_S8x32_0_0) fill pads_S8x32_S8x256_000_128960 h_S_
/-- The first eight rows of the region table, at columns `[160, 176)`. -/
def region (t : Vec Ideal S64x16 .f32) : Vec Ideal S8x256 .f32 :=
  pad S8x256 ![0, 160] ![0, 80] ![0, 0] (extractStridedSlice S8x16 ![0, 0] t slices_S64x16_S8x16_0_0) fill pads_S8x16_S8x256_000_160800 h_S_
/-- The first eight rows of the codon table, at columns `[176, 184)`. -/
def codon (t : Vec Ideal S8x8 .f32) : Vec Ideal S8x256 .f32 :=
  pad S8x256 ![0, 176] ![0, 72] ![0, 0] t fill pads_S8x8_S8x256_000_176720 h_S_
/-- The first eight rows of the protein table, at columns `[184, 248)`. -/
def protein (t : Vec Ideal S12000x64 .f32) : Vec Ideal S8x256 .f32 :=
  pad S8x256 ![0, 184] ![0, 8] ![0, 0] (extractStridedSlice S8x64 ![0, 0] t slices_S12000x64_S8x64_0_0) fill pads_S8x64_S8x256_000_18480 h_S_

/-- The eight placed tables one above the other, eight rows each. -/
def small (a2 : Vec Ideal S30000x64 .f32) (a3 : Vec Ideal S8x16 .f32) (a4 : Vec Ideal S32x32 .f32) (a5 : Vec Ideal S64x16 .f32)
    (a6 : Vec Ideal S8x8 .f32) (a7 : Vec Ideal S12000x64 .f32) : Vec Ideal S64x256 .f32 :=
  concatenate S64x256 0 [⟨S8x256, baseBefore a3⟩, ⟨S8x256, pos a2⟩, ⟨S8x256, baseAfter a3⟩, ⟨S8x256, codon a6⟩,
    ⟨S8x256, aaBefore a4⟩, ⟨S8x256, protein a7⟩, ⟨S8x256, aaAfter a4⟩, ⟨S8x256, region a5⟩]
    concatenates_S8x256_S8x256_S8x256_S8x256_S8x256_S8x256_S8x256_S8x256_S64x256_d0

/-- The weights with three rows of padding. -/
def weights (a10 : Vec Ideal S253x256 .f32) : Vec Ideal S256x256 .f32 :=
  pad S256x256 ![0, 0] ![3, 0] ![0, 0] a10 fill pads_S253x256_S256x256_030_000 h_S_

/-- Their last eight rows. -/
def last (a10 : Vec Ideal S253x256 .f32) : Vec Ideal S8x256 .f32 :=
  extractStridedSlice S8x256 ![248, 0] (weights a10) slices_S256x256_S8x256_248_0

/-- The scales on a diagonal. -/
def scale (a8 : Vec Ideal S5 .f32) : Vec Ideal S8x8 .f32 :=
  mulf (uitofp .f32 (cmpi .eq (addi (iotaInDim S8x8 32 0) (broadcastInDim S8x8 ![] bcast_S_S8x8 (constantI S_ 32 0#32))) (iotaInDim S8x8 32 1)))
    (broadcastInDim S8x8 ![0, 1] bcast_S1x8_S8x8_0_1 (broadcastInDim S1x8 ![1] bcast_S8_S1x8_1 (pad S8 ![0] ![3] ![0] a8 fill pads_S5_S8_030 h_S_)))

/-- The offsets as the first of eight rows. -/
def offset (a9 : Vec Ideal S5 .f32) : Vec Ideal S8x8 .f32 :=
  Host.scatter scatter_S8x8_S1_S8_0_0_0_0 (fun _ b => b) (broadcastInDim S8x8 ![] bcast_S_S8x8 (constant (F := Ideal) S_ .f32 0x00000000#32))
    (broadcastInDim S1 ![] bcast_S_S1 (constantI S_ 32 0#32)) (pad S8 ![0] ![3] ![0] a9 fill pads_S5_S8_030 h_S_)

/-- The bias as the first of eight rows. -/
def bias (a11 : Vec Ideal S256 .f32) : Vec Ideal S8x256 .f32 :=
  Host.scatter scatter_S8x256_S1_S256_0_0_0_0 (fun _ b => b) (broadcastInDim S8x256 ![] bcast_S_S8x256 (constant (F := Ideal) S_ .f32 0x00000000#32))
    (broadcastInDim S1 ![] bcast_S_S1 (constantI S_ 32 0#32)) a11

variable (m : (ℓ : Loc nD τ sig) → Buf (Elt Ideal) ℓ) (ρ : Dev nD → PrngReg)

/-! ### What the first launch finds in its six arrays -/

/-- Its weights are the argument's, padded. -/
theorem weights_eq (c : Dev nD) : W23 m ρ c (Proc.devRef .tc main_v14) = weights (m ((c : Thread nD τ).loc main_arg10)) := by
  unfold_abbrev_sides
  after_results
  rfl

/-- Its numeric weights are the last eight rows of those. -/
theorem last_eq (c : Dev nD) : W23 m ρ c (Proc.devRef .tc main_v15) = last (m ((c : Thread nD τ).loc main_arg10)) := by
  unfold_abbrev_sides
  after_results
  rfl

/-- Its scales are the argument's, on a diagonal. -/
theorem scale_eq (c : Dev nD) : W23 m ρ c (Proc.devRef .tc main_v25) = scale (m ((c : Thread nD τ).loc main_arg8)) := by
  unfold_abbrev_sides
  after_results
  rfl

/-- Its offsets are the argument's, in the first row. -/
theorem offset_eq (c : Dev nD) : W23 m ρ c (Proc.devRef .tc main_v29) = offset (m ((c : Thread nD τ).loc main_arg9)) := by
  unfold_abbrev_sides
  after_results
  rfl

/-- Its bias is the argument's, in the first row. -/
theorem bias_eq (c : Dev nD) : W23 m ρ c (Proc.devRef .tc main_v32) = bias (m ((c : Thread nD τ).loc main_arg11)) := by
  unfold_abbrev_sides
  after_results
  rfl

/-- The host code places the position table so. -/
theorem pos_eq (c : Dev nD) : W16 m ρ c (Proc.devRef .tc main_v2) = pos (m ((c : Thread nD τ).loc main_arg2)) := by
  unfold_abbrev_sides
  after_results
  rfl

/-- The host code places the base table so, for the base before. -/
theorem baseBefore_eq (c : Dev nD) : W16 m ρ c (Proc.devRef .tc main_v0) = baseBefore (m ((c : Thread nD τ).loc main_arg3)) := by
  unfold_abbrev_sides
  after_results
  rfl

/-- The host code places the base table so, for the base after. -/
theorem baseAfter_eq (c : Dev nD) : W16 m ρ c (Proc.devRef .tc main_v3) = baseAfter (m ((c : Thread nD τ).loc main_arg3)) := by
  unfold_abbrev_sides
  after_results
  rfl

/-- The host code places the codon table so. -/
theorem codon_eq (c : Dev nD) : W16 m ρ c (Proc.devRef .tc main_v4) = codon (m ((c : Thread nD τ).loc main_arg6)) := by
  unfold_abbrev_sides
  after_results
  rfl

/-- The host code places the amino-acid table so, for the one before. -/
theorem aaBefore_eq (c : Dev nD) : W16 m ρ c (Proc.devRef .tc main_v6) = aaBefore (m ((c : Thread nD τ).loc main_arg4)) := by
  unfold_abbrev_sides
  after_results
  rfl

/-- The host code places the protein table so. -/
theorem protein_eq (c : Dev nD) : W16 m ρ c (Proc.devRef .tc main_v8) = protein (m ((c : Thread nD τ).loc main_arg7)) := by
  unfold_abbrev_sides
  after_results
  rfl

/-- The host code places the amino-acid table so, for the one after. -/
theorem aaAfter_eq (c : Dev nD) : W16 m ρ c (Proc.devRef .tc main_v10) = aaAfter (m ((c : Thread nD τ).loc main_arg4)) := by
  unfold_abbrev_sides
  after_results
  rfl

/-- The host code places the region table so. -/
theorem region_eq (c : Dev nD) : W16 m ρ c (Proc.devRef .tc main_v12) = region (m ((c : Thread nD τ).loc main_arg5)) := by
  unfold_abbrev_sides
  after_results
  rfl

/-- Its small tables are the eight placed ones, one above the other. -/
theorem small_eq (c : Dev nD) : W23 m ρ c (Proc.devRef .tc main_v13)
    = small (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7)) := by
  have e : W23 m ρ c (Proc.devRef .tc main_v13) = W17 m ρ c (Proc.devRef .tc main_v13) :=
    (W23_of m ρ c _ (by decide)).trans ((W22_of m ρ c _ (by decide)).trans ((W21_of m ρ c _ (by decide)).trans
      ((W20_of m ρ c _ (by decide)).trans ((W19_of m ρ c _ (by decide)).trans (W18_of m ρ c _ (by decide))))))
  rw [e]
  have h : W17 m ρ c (Proc.devRef .tc main_v13) = concatenate S64x256 0 [⟨S8x256, W16 m ρ c (Proc.devRef .tc main_v0)⟩,
      ⟨S8x256, W16 m ρ c (Proc.devRef .tc main_v2)⟩, ⟨S8x256, W16 m ρ c (Proc.devRef .tc main_v3)⟩,
      ⟨S8x256, W16 m ρ c (Proc.devRef .tc main_v4)⟩, ⟨S8x256, W16 m ρ c (Proc.devRef .tc main_v6)⟩,
      ⟨S8x256, W16 m ρ c (Proc.devRef .tc main_v8)⟩, ⟨S8x256, W16 m ρ c (Proc.devRef .tc main_v10)⟩,
      ⟨S8x256, W16 m ρ c (Proc.devRef .tc main_v12)⟩]
      concatenates_S8x256_S8x256_S8x256_S8x256_S8x256_S8x256_S8x256_S8x256_S64x256_d0 := by
    generalize hV : W16 m ρ c = V
    have : W17 m ρ c = StableHlo.after hostOps0_16 V := by rw [← hV]
    rw [this]
    after_results
    rfl
  rw [h, baseBefore_eq, pos_eq, baseAfter_eq, codon_eq, aaBefore_eq, protein_eq, aaAfter_eq, region_eq]
  rfl

end Cert.KernelIdeal.HostPrep

end
-- ==== Proof.HostValues.lean ====
/-
  The arrays that the first launch reads, at an index.
-/
module

public import proofs.«01_k».proof.Proof.HostPrep
public import Idealize.ShloMosaic.Lib.Routing.OpsOne

@[expose] public section

set_option maxRecDepth 16384

noncomputable section

namespace Cert.KernelIdeal.HostPrep

open Idealize.ShloMosaic Idealize.ShloMosaic.TcCoe Idealize.SL.Sem Cert.KernelIdeal Cert.KernelIdeal.Gen

/-- A table of eight rows and `n` columns placed at column `off` of rows of 256, zeros around it. -/
def placed (off : Nat) {n : Nat} (T : Fin 8 → Fin n → EReal) (r : Fin 8) (k : Fin 256) : EReal :=
  if h : off ≤ k.val ∧ k.val < off + n then T r ⟨k.val - off, by omega⟩ else 0

/-- The integer zero as a float is zero. -/
theorem zero_float : (FloatOps.sitofp FTy.f32 (0#32) : Ideal .f32) = (0 : EReal) := by
  show ((((0#32 : BitVec 32).toInt : ℝ)) : EReal) = 0
  simp

/-- A vector written over row 0 of an array is that row afterwards. -/
theorem first_row {A N : Nat} {α : Type} (d : ScatterDims (⟨2, ![A, N]⟩ : Shape) ⟨1, ![1]⟩ ⟨1, ![N]⟩) (hi : d.insertedWindowDims = [0])
    (hs : d.scatterDimsToOperandDims = [0]) (x : (⟨2, ![A, N]⟩ : Shape).Idx → α) (h) (u : (⟨1, ![N]⟩ : Shape).Idx → α) (hA : 0 < A) (j : Fin N) :
    Host.scatter d (fun _ b => b) x (broadcastInDim ⟨1, ![1]⟩ ![] h (constantI S_ 32 0#32)) u (ix2 ⟨0, hA⟩ j) = u (ix1 j) := by
  have hk : d.sKept = [1] := by
    show (⟨2, ![A, N]⟩ : Shape).kept d.insertedWindowDims = _
    rw [hi]
    rfl
  have w0 : ∀ q, d.window q 0 = 0 := fun q => by
    unfold ScatterDims.window
    rw [dif_neg (by rw [hk]; exact (by decide : (0 : Fin 2) ∉ [(1 : Fin 2)]))]
  have w1 : ∀ q : Fin N, d.window (ix1 q) 1 = q.val := fun q => by
    unfold ScatterDims.window
    rw [dif_pos (by rw [hk]; exact (by decide : (1 : Fin 2) ∈ [(1 : Fin 2)]))]
    have e : ∀ X : Fin 1, (ix1 q X).val = q.val := fun X => by
      obtain rfl : X = 0 := Subsingleton.elim _ _
      rfl
    exact e _
  have s0 : ∀ q, d.start q (broadcastInDim ⟨1, ![1]⟩ ![] h (constantI S_ 32 0#32)) 0 = 0 := fun q => by
    unfold ScatterDims.start
    rw [dif_pos (by rw [hs]; exact (by decide : (0 : Fin 2) ∈ [(0 : Fin 2)]))]
    rfl
  have s1 : ∀ q, d.start q (broadcastInDim ⟨1, ![1]⟩ ![] h (constantI S_ 32 0#32)) 1 = 0 := fun q => by
    unfold ScatterDims.start
    rw [dif_neg (by rw [hs]; exact (by decide : (1 : Fin 2) ∉ [(0 : Fin 2)]))]
  have lands : ∀ q : Fin N, d.resultIdx? (ix1 q) (broadcastInDim ⟨1, ![1]⟩ ![] h (constantI S_ 32 0#32)) = some (ix2 ⟨0, hA⟩ j) ↔ q = j := fun q => by
    refine (Routing.resultIdx?_ix2 d (ix1 q) _ ⟨0, hA⟩ j).trans ?_
    rw [w0, w1, s0, s1, Fin.ext_iff]
    simp
  refine Routing.scatter_set_hit d x _ u _ _ (fun q hq => ?_) (ix1 j) ((lands j).2 rfl)
  rw [ValueIdx.eq_ix1 q] at hq ⊢
  exact congrArg (fun q => u (ix1 q)) ((lands _).1 hq)

/-- The placed position table, at an index: its entry at columns `[0, 64)`, zero elsewhere. -/
theorem pos_apply (t : Vec Ideal S30000x64 .f32) (r : Fin 8) (k : Fin 256) :
    pos t (ix2 r k) = placed 0 (fun r j => t (ix2 (⟨r.val, by omega⟩ : Fin 30000) j)) r k := by
  unfold placed
  pointwise [pos, fill]
  rw [zero_float]

/-- The placed base table, for the base before, at an index: its entry at columns `[64, 80)`, zero elsewhere. -/
theorem baseBefore_apply (t : Vec Ideal S8x16 .f32) (r : Fin 8) (k : Fin 256) :
    baseBefore t (ix2 r k) = placed 64 (fun r j => t (ix2 r j)) r k := by
  unfold placed
  pointwise [baseBefore, fill]
  rw [zero_float]
  split_ifs <;> first | rfl | omega

/-- The placed base table, for the base after, at an index: its entry at columns `[80, 96)`, zero elsewhere. -/
theorem baseAfter_apply (t : Vec Ideal S8x16 .f32) (r : Fin 8) (k : Fin 256) :
    baseAfter t (ix2 r k) = placed 80 (fun r j => t (ix2 r j)) r k := by
  unfold placed
  pointwise [baseAfter, fill]
  rw [zero_float]
  split_ifs <;> first | rfl | omega

/-- The placed amino-acid table, for the one before, at an index: its entry at columns `[96, 128)`, zero elsewhere. -/
theorem aaBefore_apply (t : Vec Ideal S32x32 .f32) (r : Fin 8) (k : Fin 256) :
    aaBefore t (ix2 r k) = placed 96 (fun r j => t (ix2 (⟨r.val, by omega⟩ : Fin 32) j)) r k := by
  unfold placed
  pointwise [aaBefore, fill]
  rw [zero_float]
  split_ifs <;> first | rfl | omega

/-- The placed amino-acid table, for the one after, at an index: its entry at columns `[128, 160)`, zero elsewhere. -/
theorem aaAfter_apply (t : Vec Ideal S32x32 .f32) (r : Fin 8) (k : Fin 256) :
    aaAfter t (ix2 r k) = placed 128 (fun r j => t (ix2 (⟨r.val, by omega⟩ : Fin 32) j)) r k := by
  unfold placed
  pointwise [aaAfter, fill]
  rw [zero_float]
  split_ifs <;> first | rfl | omega

/-- The placed region table, at an index: its entry at columns `[160, 176)`, zero elsewhere. -/
theorem region_apply (t : Vec Ideal S64x16 .f32) (r : Fin 8) (k : Fin 256) :
    region t (ix2 r k) = placed 160 (fun r j => t (ix2 (⟨r.val, by omega⟩ : Fin 64) j)) r k := by
  unfold placed
  pointwise [region, fill]
  rw [zero_float]
  split_ifs <;> first | rfl | omega

/-- The placed codon table, at an index: its entry at columns `[176, 184)`, zero elsewhere. -/
theorem codon_apply (t : Vec Ideal S8x8 .f32) (r : Fin 8) (k : Fin 256) :
    codon t (ix2 r k) = placed 176 (fun r j => t (ix2 r j)) r k := by
  unfold placed
  pointwise [codon, fill]
  rw [zero_float]
  split_ifs <;> first | rfl | omega

/-- The placed protein table, at an index: its entry at columns `[184, 248)`, zero elsewhere. -/
theorem protein_apply (t : Vec Ideal S12000x64 .f32) (r : Fin 8) (k : Fin 256) :
    protein t (ix2 r k) = placed 184 (fun r j => t (ix2 (⟨r.val, by omega⟩ : Fin 12000) j)) r k := by
  unfold placed
  pointwise [protein, fill]
  rw [zero_float]
  split_ifs <;> first | rfl | omega

/-- The padded weights at an index: zero below row 253. -/
theorem weights_apply (a : Vec Ideal S253x256 .f32) (k d : Fin 256) :
    weights a (ix2 k d) = if h : k.val < 253 then a (ix2 ⟨k.val, h⟩ d) else 0 := by
  pointwise [weights, fill]
  rw [zero_float]

/-- The last eight rows at an index: rows 248 to 252 of the weights, then zeros. -/
theorem last_apply (a : Vec Ideal S253x256 .f32) (k : Fin 8) (d : Fin 256) :
    last a (ix2 k d) = if h : k.val < 5 then a (ix2 ⟨248 + k.val, by omega⟩ d) else 0 := by
  pointwise [last, weights, fill]
  rw [zero_float]
  split_ifs <;> first | rfl | omega

/-- The scales at an index: the five on the diagonal, zero elsewhere. -/
theorem scale_apply (a : Vec Ideal S5 .f32) (k j : Fin 8) :
    scale a (ix2 k j) = if h : k = j ∧ k.val < 5 then a (ix1 ⟨k.val, h.2⟩) else 0 := by
  pointwise [scale, fill]
  rw [zero_float]
  have e : IntOp.cmpi .eq (IntOp.addi (BitVec.ofNat 32 k.val) 0#32) (BitVec.ofNat 32 j.val) = if k = j then 1#1 else 0#1 := by
    revert k j
    decide
  rw [e]
  by_cases h : k = j
  · subst h
    have one : (FloatOps.uitofp FTy.f32 (1#1) : Ideal .f32) = (1 : EReal) := by
      show ((((1#1 : BitVec 1).toNat : ℝ)) : EReal) = 1
      simp
    rw [if_pos rfl, one, one_mul]
    split_ifs <;> first | rfl | omega
  · have zero : (FloatOps.uitofp FTy.f32 (0#1) : Ideal .f32) = (0 : EReal) := by
      show ((((0#1 : BitVec 1).toNat : ℝ)) : EReal) = 0
      simp
    rw [if_neg h, zero, zero_mul, dif_neg fun q => h q.1]

variable (a2 : Vec Ideal S30000x64 .f32) (a3 : Vec Ideal S8x16 .f32) (a4 : Vec Ideal S32x32 .f32) (a5 : Vec Ideal S64x16 .f32)
    (a6 : Vec Ideal S8x8 .f32) (a7 : Vec Ideal S12000x64 .f32)

/-- The eight placed tables in the order of the features that read them. -/
def tables : Fin 8 → Vec Ideal S8x256 .f32 :=
  ![baseBefore a3, pos a2, baseAfter a3, codon a6, aaBefore a4, protein a7, aaAfter a4, region a5]

/-- Row `8 f + r` of the stack is row `r` of feature `f`'s table. -/
theorem small_apply (f r : Fin 8) (k : Fin 256) :
    small a2 a3 a4 a5 a6 a7 (ix2 (⟨8 * f.val + r.val, by omega⟩ : Fin 64) k) = tables a2 a3 a4 a5 a6 a7 f (ix2 r k) := by
  match f with
  | ⟨0, _⟩ =>
    show small a2 a3 a4 a5 a6 a7 (ix2 (⟨8 * 0 + r.val, by omega⟩ : Fin 64) k) = baseBefore a3 (ix2 r k)
    pointwise [small]
  | ⟨1, _⟩ =>
    show small a2 a3 a4 a5 a6 a7 (ix2 (⟨8 * 1 + r.val, by omega⟩ : Fin 64) k) = pos a2 (ix2 r k)
    pointwise [small]
  | ⟨2, _⟩ =>
    show small a2 a3 a4 a5 a6 a7 (ix2 (⟨8 * 2 + r.val, by omega⟩ : Fin 64) k) = baseAfter a3 (ix2 r k)
    pointwise [small]
    rw [dif_neg (by omega), dif_neg (by omega), dif_pos (by omega)]
    exact congrArg (fun q => baseAfter a3 (ix2 q k)) (Fin.ext (by dsimp only; omega))
  | ⟨3, _⟩ =>
    show small a2 a3 a4 a5 a6 a7 (ix2 (⟨8 * 3 + r.val, by omega⟩ : Fin 64) k) = codon a6 (ix2 r k)
    pointwise [small]
    rw [dif_neg (by omega), dif_neg (by omega), dif_neg (by omega), dif_pos (by omega)]
    exact congrArg (fun q => codon a6 (ix2 q k)) (Fin.ext (by dsimp only; omega))
  | ⟨4, _⟩ =>
    show small a2 a3 a4 a5 a6 a7 (ix2 (⟨8 * 4 + r.val, by omega⟩ : Fin 64) k) = aaBefore a4 (ix2 r k)
    pointwise [small]
    rw [dif_neg (by omega), dif_neg (by omega), dif_neg (by omega), dif_neg (by omega), dif_pos (by omega)]
    exact congrArg (fun q => aaBefore a4 (ix2 q k)) (Fin.ext (by dsimp only; omega))
  | ⟨5, _⟩ =>
    show small a2 a3 a4 a5 a6 a7 (ix2 (⟨8 * 5 + r.val, by omega⟩ : Fin 64) k) = protein a7 (ix2 r k)
    pointwise [small]
    rw [dif_neg (by omega), dif_neg (by omega), dif_neg (by omega), dif_neg (by omega), dif_neg (by omega), dif_pos (by omega)]
    exact congrArg (fun q => protein a7 (ix2 q k)) (Fin.ext (by dsimp only; omega))
  | ⟨6, _⟩ =>
    show small a2 a3 a4 a5 a6 a7 (ix2 (⟨8 * 6 + r.val, by omega⟩ : Fin 64) k) = aaAfter a4 (ix2 r k)
    pointwise [small]
    rw [dif_neg (by omega), dif_neg (by omega), dif_neg (by omega), dif_neg (by omega), dif_neg (by omega), dif_neg (by omega), dif_pos (by omega)]
    exact congrArg (fun q => aaAfter a4 (ix2 q k)) (Fin.ext (by dsimp only; omega))
  | ⟨7, _⟩ =>
    show small a2 a3 a4 a5 a6 a7 (ix2 (⟨8 * 7 + r.val, by omega⟩ : Fin 64) k) = region a5 (ix2 r k)
    pointwise [small]
    rw [dif_neg (by omega), dif_neg (by omega), dif_neg (by omega), dif_neg (by omega), dif_neg (by omega), dif_neg (by omega), dif_neg (by omega)]
    exact congrArg (fun q => region a5 (ix2 q k)) (Fin.ext (by dsimp only; omega))

/-- The first row of the offsets. -/
theorem offset_apply (a : Vec Ideal S5 .f32) (j : Fin 8) :
    offset a (ix2 0 j) = if h : j.val < 5 then a (ix1 ⟨j.val, h⟩) else 0 := by
  unfold offset
  refine (first_row scatter_S8x8_S1_S8_0_0_0_0 rfl rfl _ bcast_S_S1 _ (by decide) j).trans ?_
  pointwise [fill]
  rw [zero_float]

/-- The first row of the biases. -/
theorem bias_apply (a : Vec Ideal S256 .f32) (j : Fin 256) : bias a (ix2 0 j) = a (ix1 j) := by
  unfold bias
  exact first_row scatter_S8x256_S1_S256_0_0_0_0 rfl rfl _ bcast_S_S1 _ (by decide) j

end Cert.KernelIdeal.HostPrep

end
-- ==== Proof.PrepBlock.lean ====
/-
  What the first launch leaves in its result array: the 80 by 256 table that the main launch multiplies by.
-/
module

public import proofs.«01_k».proof.Proof.Gen.KernelIdeal.Frame
public import Idealize.ShloMosaic.Lib.Pipeline.ValueKit
public import Idealize.ShloMosaic.Lib.Pointwise

@[expose] public section

set_option maxRecDepth 16384

noncomputable section

namespace Cert.KernelIdeal.PrepBlock

open Idealize.ShloMosaic Idealize.ShloMosaic.TcCoe Idealize.SL.Sem Cert.KernelIdeal Cert.KernelIdeal.Gen

variable (V : (c : Dev nD) → (b : Ref sig .tc) → Buf (Elt Ideal) ((c : Thread nD τ).loc b))

/-- An entry of the table: 64 rows of small tables times the weights, 8 rows of scales times the last weights, 8 rows
    of the offsets times the last weights plus the bias. -/
def entry (s : Vec Ideal S64x256 .f32) (w : Vec Ideal S256x256 .f32) (n : Vec Ideal S8x256 .f32)
    (g r : Vec Ideal S8x8 .f32) (b : Vec Ideal S8x256 .f32) (k : Fin 80) (d : Fin 256) : EReal :=
  if h : (k : ℕ) < 64 then ∑ j : Fin 256, s (ix2 ⟨k, h⟩ j) * w (ix2 j d)
  else if h' : (k : ℕ) < 72 then ∑ j : Fin 8, g (ix2 ⟨k - 64, by omega⟩ j) * n (ix2 j d)
  else b (ix2 ⟨k - 72, by omega⟩ d) + ∑ j : Fin 8, r (ix2 ⟨k - 72, by omega⟩ j) * n (ix2 j d)

/-- The table. -/
def table (s : Vec Ideal S64x256 .f32) (w : Vec Ideal S256x256 .f32) (n : Vec Ideal S8x256 .f32)
    (g r : Vec Ideal S8x8 .f32) (b : Vec Ideal S8x256 .f32) : Vec Ideal S80x256 .f32 := fun i =>
  entry s w n g r b (i 0) (i 1)

/-- The first launch's one grid point reads the whole of each array. -/
theorem idx_zero : (∀ a, win0_0.index t0_0 a = 0) ∧ (∀ a, win0_1.index t0_0 a = 0) ∧ (∀ a, win0_2.index t0_0 a = 0)
    ∧ (∀ a, win0_3.index t0_0 a = 0) ∧ (∀ a, win0_4.index t0_0 a = 0) ∧ (∀ a, win0_5.index t0_0 a = 0) := by
  decide +kernel

/-- The grid point's block of the small tables is the whole array. -/
theorem blk_small (c : Dev nD) : iblk0 V c 0 t0_0 = V c main_v13 := by
  funext x; blk_ext [iblk0, idx_zero.1]
/-- The grid point's block of the weights is the whole array. -/
theorem blk_weights (c : Dev nD) : iblk0 V c 1 t0_0 = V c main_v14 := by
  funext x; blk_ext [iblk0, idx_zero.2.1]
/-- The grid point's block of the numeric weights is the whole array. -/
theorem blk_last (c : Dev nD) : iblk0 V c 2 t0_0 = V c main_v15 := by
  funext x; blk_ext [iblk0, idx_zero.2.2.1]
/-- The grid point's block of the scales is the whole array. -/
theorem blk_scale (c : Dev nD) : iblk0 V c 3 t0_0 = V c main_v25 := by
  funext x; blk_ext [iblk0, idx_zero.2.2.2.1]
/-- The grid point's block of the offsets is the whole array. -/
theorem blk_offset (c : Dev nD) : iblk0 V c 4 t0_0 = V c main_v29 := by
  funext x; blk_ext [iblk0, idx_zero.2.2.2.2.1]
/-- The grid point's block of the bias is the whole array. -/
theorem blk_bias (c : Dev nD) : iblk0 V c 5 t0_0 = V c main_v32 := by
  funext x; blk_ext [iblk0, idx_zero.2.2.2.2.2]

/-- The first store: the small tables times the weights. -/
theorem pay_small (s : Vec Ideal S64x256 .f32) (w : Vec Ideal S256x256 .f32) (k : Fin 64) (d : Fin 256) :
    k0_pay2 s w (ix2 k d) = ∑ j : Fin 256, s (ix2 k j) * w (ix2 j d) := by
  pointwise [k0_pay2]

/-- The second store: the scales times the numeric weights. -/
theorem pay_scale (n : Vec Ideal S8x256 .f32) (g : Vec Ideal S8x8 .f32) (k : Fin 8) (d : Fin 256) :
    k0_pay3 n g (ix2 k d) = ∑ j : Fin 8, g (ix2 k j) * n (ix2 j d) := by
  pointwise [k0_pay3, k0_pay1]

/-- The third store: the bias and the offsets times the numeric weights. -/
theorem pay_bias (n : Vec Ideal S8x256 .f32) (b : Vec Ideal S8x256 .f32) (r : Vec Ideal S8x8 .f32) (k : Fin 8) (d : Fin 256) :
    k0_pay4 n b r (ix2 k d) = b (ix2 k d) + ∑ j : Fin 8, r (ix2 k j) * n (ix2 j d) := by
  pointwise [k0_pay4, k0_pay1]

/-- The three stores of the body, whatever buffers it is given. -/
theorem out_eq (c : Dev nD) (a0 : Memref sig .tc .vmem S64x256 .f32) (h0 : a0.IsWhole)
    (a1 : Memref sig .tc .vmem S256x256 .f32) (h1 : a1.IsWhole) (a2 : Memref sig .tc .vmem S8x256 .f32) (h2 : a2.IsWhole)
    (a3 : Memref sig .tc .vmem S8x8 .f32) (h3 : a3.IsWhole) (a4 : Memref sig .tc .vmem S8x8 .f32) (h4 : a4.IsWhole)
    (a5 : Memref sig .tc .vmem S8x256 .f32) (h5 : a5.IsWhole) (a6 : Memref sig .tc .vmem S80x256 .f32) (h6 : a6.IsWhole)
    (x0 : Vec Ideal S64x256 .f32) (x1 : Vec Ideal S256x256 .f32) (x2 : Vec Ideal S8x256 .f32)
    (x3 x4 : Vec Ideal S8x8 .f32) (x5 : Vec Ideal S8x256 .f32) :
    out0_A_6 c a0 h0 a1 h1 a2 h2 a3 h3 a4 h4 a5 h5 a6 h6 x0 x1 x2 x3 x4 x5
      = View.canon [⟨Rect.unit ![72, 0] ![8, 256] inb_S80x256_S8x256_72_0, k0_pay4 x2 x5 x4⟩,
          ⟨Rect.unit ![64, 0] ![8, 256] inb_S80x256_S8x256_64_0, k0_pay3 x2 x3⟩,
          ⟨Rect.unit ![0, 0] ![64, 256] inb_S80x256_S64x256_0_0, k0_pay2 x0 x1⟩] := by
  frame_out

/-- Rows 0 to 63: the small tables times the weights. -/
theorem table_small (s : Vec Ideal S64x256 .f32) (w : Vec Ideal S256x256 .f32) (n : Vec Ideal S8x256 .f32)
    (g r : Vec Ideal S8x8 .f32) (b : Vec Ideal S8x256 .f32) (k : Fin 64) (d : Fin 256) :
    table s w n g r b (ix2 ⟨k, by omega⟩ d) = ∑ j : Fin 256, s (ix2 k j) * w (ix2 j d) := by
  show entry s w n g r b ⟨k, by omega⟩ d = _
  unfold entry
  rw [dif_pos (show (k : ℕ) < 64 from k.2)]

/-- Rows 64 to 71: the scales times the numeric weights. -/
theorem table_scale (s : Vec Ideal S64x256 .f32) (w : Vec Ideal S256x256 .f32) (n : Vec Ideal S8x256 .f32)
    (g r : Vec Ideal S8x8 .f32) (b : Vec Ideal S8x256 .f32) (k : Fin 8) (d : Fin 256) :
    table s w n g r b (ix2 ⟨64 + k, by omega⟩ d) = ∑ j : Fin 8, g (ix2 k j) * n (ix2 j d) := by
  have e : (⟨64 + (k : ℕ) - 64, by omega⟩ : Fin 8) = k := Fin.ext (by simp)
  show entry s w n g r b ⟨64 + k, by omega⟩ d = _
  unfold entry
  rw [dif_neg (show ¬ 64 + (k : ℕ) < 64 by omega), dif_pos (show 64 + (k : ℕ) < 72 by omega)]
  exact Finset.sum_congr rfl fun j _ => congrArg (fun q => g (ix2 q j) * n (ix2 j d)) e

/-- Rows 72 to 79: the bias and the offsets times the numeric weights. -/
theorem table_bias (s : Vec Ideal S64x256 .f32) (w : Vec Ideal S256x256 .f32) (n : Vec Ideal S8x256 .f32)
    (g r : Vec Ideal S8x8 .f32) (b : Vec Ideal S8x256 .f32) (k : Fin 8) (d : Fin 256) :
    table s w n g r b (ix2 ⟨72 + k, by omega⟩ d) = b (ix2 k d) + ∑ j : Fin 8, r (ix2 k j) * n (ix2 j d) := by
  have e : (⟨72 + (k : ℕ) - 72, by omega⟩ : Fin 8) = k := Fin.ext (by simp)
  show entry s w n g r b ⟨72 + k, by omega⟩ d = _
  unfold entry
  rw [dif_neg (show ¬ 72 + (k : ℕ) < 64 by omega), dif_neg (show ¬ 72 + (k : ℕ) < 72 by omega)]
  exact congrArg (fun q => b (ix2 q d) + ∑ j : Fin 8, r (ix2 q j) * n (ix2 j d)) e

/-- The three stores fill the table. -/
theorem canon_eq (s : Vec Ideal S64x256 .f32) (w : Vec Ideal S256x256 .f32) (n : Vec Ideal S8x256 .f32)
    (g r : Vec Ideal S8x8 .f32) (b : Vec Ideal S8x256 .f32) (k : Fin 80) (d : Fin 256) :
    View.canon (Val := Elt Ideal) (s := S80x256) (e := .f32)
      [⟨Rect.unit ![72, 0] ![8, 256] inb_S80x256_S8x256_72_0, k0_pay4 n b r⟩,
        ⟨Rect.unit ![64, 0] ![8, 256] inb_S80x256_S8x256_64_0, k0_pay3 n g⟩,
        ⟨Rect.unit ![0, 0] ![64, 256] inb_S80x256_S64x256_0_0, k0_pay2 s w⟩] (ix2 k d) = table s w n g r b (ix2 k d) := by
  refine View.canon_apply_of_pieces (table s w n g r b) _ ?_ _ ?_
  · intro p hp x
    simp only [List.mem_cons, List.not_mem_nil, or_false] at hp
    rcases hp with rfl | rfl | rfl
    · obtain ⟨k', d', rfl⟩ : ∃ (k' : Fin 8) (d' : Fin 256), x = ix2 k' d' := ⟨x 0, x 1, (ix2_eta x).symm⟩
      refine (pay_bias n b r k' d').trans ((table_bias s w n g r b k' d').symm.trans (congrArg _ ?_))
      blk_ext
    · obtain ⟨k', d', rfl⟩ : ∃ (k' : Fin 8) (d' : Fin 256), x = ix2 k' d' := ⟨x 0, x 1, (ix2_eta x).symm⟩
      refine (pay_scale n g k' d').trans ((table_scale s w n g r b k' d').symm.trans (congrArg _ ?_))
      blk_ext
    · obtain ⟨k', d', rfl⟩ : ∃ (k' : Fin 64) (d' : Fin 256), x = ix2 k' d' := ⟨x 0, x 1, (ix2_eta x).symm⟩
      refine (pay_small s w k' d').trans ((table_small s w n g r b k' d').symm.trans (congrArg _ ?_))
      blk_ext
  · have hk := k.2
    have hd := d.2
    rcases (by omega : 72 ≤ (k : ℕ) ∨ (64 ≤ (k : ℕ) ∧ (k : ℕ) < 72) ∨ (k : ℕ) < 64) with h | h | h
    · refine ⟨_, .head _, ?_⟩; exact (Rect.mem_set_unit (inb := inb_S80x256_S8x256_72_0)).2 (Fin.forall_fin_two.2 ⟨⟨h, hk⟩, ⟨Nat.zero_le _, hd⟩⟩)
    · refine ⟨_, .tail _ (.head _), ?_⟩; exact (Rect.mem_set_unit (inb := inb_S80x256_S8x256_64_0)).2 (Fin.forall_fin_two.2 ⟨h, ⟨Nat.zero_le _, hd⟩⟩)
    · refine ⟨_, .tail _ (.tail _ (.head _)), ?_⟩
      exact (Rect.mem_set_unit (inb := inb_S80x256_S64x256_0_0)).2 (Fin.forall_fin_two.2 ⟨⟨Nat.zero_le _, h⟩, ⟨Nat.zero_le _, hd⟩⟩)

/-- The first launch leaves the table of its six arrays. -/
theorem final (c : Dev nD) : (dat0 V c).arrAt 6 cfg0.N
    = table (V c main_v13) (V c main_v14) (V c main_v15) (V c main_v25) (V c main_v29) (V c main_v32) := by
  refine (dat0 V c).arrAt_eq_of_after_last 6 t0_0 (by decide +kernel) _ fun j => ?_
  blk_simp
  rw [after0_6]
  unfold outsAt0
  rw [out_eq, blk_small, blk_weights, blk_last, blk_scale, blk_offset, blk_bias]
  idx_vars j
  exact canon_eq _ _ _ _ _ _ _ _

end Cert.KernelIdeal.PrepBlock

end
-- ==== Proof.Layout.lean ====
/-
  The main body's token matrix, read at an index.

  The main body spreads the packed feature words of one block over a matrix with one row per feature and one column
  per token. It writes that matrix as 112 tiles laid side by side, each tile eight rows put on top of one another.
-/
module

public import proofs.«01_k».proof.Proof.Gen.KernelIdeal.Frame
public import Idealize.ShloMosaic.Lib.Pointwise
public import Idealize.ShloMosaic.Lib.Pipeline.Value

@[expose] public section

noncomputable section

namespace Cert.KernelIdeal.Tokens

open Idealize.ShloMosaic Idealize.SL.Sem Cert.KernelIdeal Cert.KernelIdeal.Gen

variable {F : FTy → Type} [FloatOps F] [Named F]

/-- A row of the packed words can be cut out at any of the 112 row numbers. -/
theorem row_slices (r : Fin 112) : S112x128.Slices ![(r : ℕ), 0] S1x128 := by
  refine ⟨rfl, fun a => ?_⟩
  match a with
  | ⟨0, _⟩ => change (r : ℕ) + 1 ≤ 112; omega
  | ⟨1, _⟩ => exact le_refl 128

/-- Eight rows on top of one another fill a tile. -/
theorem rows_fill (g : Fin 8 → IVec S1x128 32) :
    Shape.Concatenates ((List.ofFn fun k : Fin 8 => (⟨S1x128, g k⟩ : (s : Shape) × (s.Idx → BitVec 32))).map (·.1))
      S8x128 0 := by
  rw [List.map_ofFn]
  exact (by decide +kernel : Shape.Concatenates (List.ofFn fun _ : Fin 8 => S1x128) S8x128 0)

/-- Tile `r`: row `r` of every feature, one feature below the other. -/
def tile (f : Fin 8 → IVec S112x128 32) (r : Fin 112) : IVec S8x128 32 :=
  concatenate S8x128 0 (List.ofFn fun k : Fin 8 =>
    (⟨S1x128, extractStridedSlice S1x128 ![(r : ℕ), 0] (f k) (row_slices r)⟩ : (s : Shape) × (s.Idx → BitVec 32)))
    (rows_fill _)

/-- The 112 tiles side by side fill the token matrix. -/
theorem tiles_fill (g : Fin 112 → IVec S8x128 32) :
    Shape.Concatenates ((List.ofFn fun r : Fin 112 => (⟨S8x128, g r⟩ : (s : Shape) × (s.Idx → BitVec 32))).map (·.1))
      S8x14336 1 := by
  rw [List.map_ofFn]
  exact (by decide +kernel : Shape.Concatenates (List.ofFn fun _ : Fin 112 => S8x128) S8x14336 1)

/-- The token matrix of eight feature planes, as the body lays it out. -/
def tokens (f : Fin 8 → IVec S112x128 32) : IVec S8x14336 32 :=
  concatenate S8x14336 1 (List.ofFn fun r : Fin 112 => (⟨S8x128, tile f r⟩ : (s : Shape) × (s.Idx → BitVec 32)))
    (tiles_fill _)

/-- The eight feature planes of a block of packed words: three bits each, shifted down. -/
def planes (x0 : Vec F S1x112x128 .i32) : Fin 8 → IVec S112x128 32 :=
  ![k1_pay5 (F := F) x0, k1_pay6 (F := F) x0, k1_pay7 (F := F) x0, k1_pay8 (F := F) x0, k1_pay9 (F := F) x0,
    k1_pay10 (F := F) x0, k1_pay11 (F := F) x0, k1_pay13 (k1_pay12 (F := F) x0) 7#32]

set_option maxRecDepth 65536 in
/-- What the main body stores, with its token matrix named. -/
theorem out_eq (x0 : Vec F S1x112x128 .i32) (x1 : Vec F S8x14336 .f32) (x2 : Vec F S80x256 .f32) :
    out1_3 x0 x1 x2 = View.canon [⟨r1_3, k1_pay1 (k1_pay3 (View.ld x1 r1_1)) (k1_pay4 (View.ld x2 r1_2))
      (k1_pay187 (sitofp .f32 (tokens (planes (F := F) (View.ld x0 r1_0)))) (iota .tc S8x64 32 [0] iota_S8x64_d0_w32)
        (iota .tc S8x64 32 [1] iota_S8x64_d1_w32) 8#32 k1_pay185 k1_pay186) (k1_pay188 (k1_pay3 (View.ld x1 r1_1)))⟩] := by
  sl_kernel_rfl

/-- A tile at feature `k`, lane `j`. -/
theorem tile_apply (f : Fin 8 → IVec S112x128 32) (r : Fin 112) (k : Fin 8) (j : Fin 128) :
    tile f r (ix2 k j) = f k (ix2 r j) := by
  refine (concatenate_ofFn_apply (t := S8x128) (s₁ := S1x128) 0 _ (rows_fill _) rfl 1 rfl (ix2 k j) k (Nat.div_one _)
    (ix2 0 j) (by change 0 = (k : ℕ) % 1; omega) ?_).trans ?_
  · intro b hb
    match b with
    | ⟨0, _⟩ => exact absurd rfl hb
    | ⟨1, _⟩ => rfl
  · pointwise

/-- The token matrix at feature `k`, token `n`: the feature's plane at the token's place among the packed words. -/
theorem tokens_apply (f : Fin 8 → IVec S112x128 32) (k : Fin 8) (n : Fin 14336) :
    tokens f (ix2 k n) = f k (ix2 ⟨n / 128, by omega⟩ ⟨n % 128, by omega⟩) := by
  refine (concatenate_ofFn_apply (t := S8x14336) (s₁ := S8x128) 1 _ (tiles_fill _) rfl 128 rfl (ix2 k n)
    ⟨n / 128, by omega⟩ rfl (ix2 k ⟨n % 128, by omega⟩) rfl ?_).trans (tile_apply ..)
  intro b hb
  match b with
  | ⟨0, _⟩ => rfl
  | ⟨1, _⟩ => exact absurd rfl hb

end Cert.KernelIdeal.Tokens
-- ==== Proof.MainBlock.lean ====
/-
  One block of the main body's result, read at an index over the extended reals.
-/
module

public import proofs.«01_k».proof.Proof.Layout

@[expose] public section

noncomputable section

namespace Cert.KernelIdeal.MainBlock

open Idealize.ShloMosaic Idealize.SL.Sem Cert.KernelIdeal Cert.KernelIdeal.Gen Cert.KernelIdeal.Tokens

/-- Field `k` of a packed word: three bits, shifted down. -/
def field (w : BitVec 32) (k : Fin 8) : BitVec 32 :=
  IntOp.andi (IntOp.shrsi .vector w (BitVec.ofNat 32 (3 * k))) 7#32

/-- The eight feature planes read at an index are the eight fields of the packed word there. -/
theorem planes_apply (x0 : Vec Ideal S1x112x128 .i32) (k : Fin 8) (r : Fin 112) (j : Fin 128) :
    planes (F := Ideal) x0 k (ix2 r j) = field (x0 (ix3 0 r j)) k := by
  match k with
  | 0 | 1 | 2 | 3 | 4 | 5 | 6 | 7 =>
    simp only [planes]
    pointwise [k1_pay2, k1_pay5, k1_pay6, k1_pay7, k1_pay8, k1_pay9, k1_pay10, k1_pay11, k1_pay12, k1_pay13, field]
    try rfl

/-- One comparison of the selection matrix, spelt on words: row `k`, column `c`. -/
def ownWord (k c : ℕ) : BitVec 32 :=
  BitVec.setWidth 32 (IntOp.cmpi .eq (BitVec.ofNat 32 k) (Scalar.select
    (IntOp.andi (IntOp.cmpi .ne (IntOp.subi (BitVec.setWidth 32 (IntOp.cmpi .sgt (BitVec.ofNat 32 c) 0#32))
        (BitVec.setWidth 32 (IntOp.cmpi .slt (BitVec.ofNat 32 c) 0#32)))
      (Scalar.subi (Scalar.extui (Scalar.cmpi .sgt 8#32 0#32)) (Scalar.extui (Scalar.cmpi .slt 8#32 0#32))))
      (IntOp.cmpi .ne (IntOp.remsi .vector (BitVec.ofNat 32 c) 8#32) 0#32))
    (IntOp.subi (IntOp.divsi .vector (BitVec.ofNat 32 c) 8#32) 1#32)
    (IntOp.divsi .vector (BitVec.ofNat 32 c) 8#32)))

/-- Column `c` belongs to feature `c / 8`. -/
theorem ownWord_eq : ∀ (k : Fin 8) (c : Fin 64), ownWord k c = if (k : ℕ) = c / 8 then 1#32 else 0#32 := by
  decide +kernel

/-- The value a column stands for, spelt on words. -/
def colWord (c : ℕ) : BitVec 32 :=
  let e : BitVec 32 := Scalar.select (Scalar.cmpi .eq 8#32 0#32) 1#32 8#32
  Scalar.select (IntOp.andi (IntOp.xori (IntOp.cmpi .slt (IntOp.remsi .vector (BitVec.ofNat 32 c) e) 0#32)
      (Scalar.cmpi .slt e 0#32)) (IntOp.cmpi .ne (IntOp.remsi .vector (BitVec.ofNat 32 c) e) 0#32))
    (IntOp.addi (IntOp.remsi .vector (BitVec.ofNat 32 c) e) e) (IntOp.remsi .vector (BitVec.ofNat 32 c) e)

/-- Column `c` stands for the value `c % 8`. -/
theorem colWord_eq : ∀ c : Fin 64, colWord c = BitVec.ofNat 32 (c % 8) := by
  decide +kernel

/-- Two words are equal when their signed readings are equal as extended reals. -/
theorem toInt_coe_inj (a b : BitVec 32) : (((a.toInt : ℝ) : EReal) = ((b.toInt : ℝ) : EReal)) ↔ a = b := by
  rw [EReal.coe_eq_coe_iff, Int.cast_inj]
  exact BitVec.toInt_inj

/-- The one-hot matrix: at token `n`, column `c`, one when feature `c / 8` of the token has the value `c % 8`. -/
theorem hot_apply (x : IVec S8x14336 32) (n : Fin 14336) (c : Fin 64) :
    k1_pay187 (F := Ideal) (sitofp .f32 x) (iota .tc S8x64 32 [0] iota_S8x64_d0_w32)
        (iota .tc S8x64 32 [1] iota_S8x64_d1_w32) 8#32 k1_pay185 k1_pay186 (ix2 n c)
      = if x (ix2 ⟨c / 8, by omega⟩ n) = BitVec.ofNat 32 (c % 8) then 1 else 0 := by
  have hsum : (∑ k : Fin 8, (((x (ix2 k n)).toInt : ℝ) : EReal) * (((ownWord k c).toInt : ℝ) : EReal))
      = (((x (ix2 ⟨c / 8, by omega⟩ n)).toInt : ℝ) : EReal) := by
    rw [Finset.sum_eq_single (⟨c / 8, by omega⟩ : Fin 8)]
    · rw [ownWord_eq, if_pos rfl]; norm_num
    · intro k _ hk
      rw [ownWord_eq, if_neg (fun h => hk (Fin.ext h))]; simp
    · intro h; exact absurd (Finset.mem_univ _) h
  have hcol := colWord_eq c
  pointwise [k1_pay187, k1_pay185, k1_pay186]
  change (((BitVec.setWidth 32 (BitVec.ofBool (decide
    ((∑ k : Fin 8, (((x (ix2 k n)).toInt : ℝ) : EReal) * (((ownWord k c).toInt : ℝ) : EReal))
      = (((colWord c).toInt : ℝ) : EReal))))).toInt : ℝ) : EReal) = _
  rw [hsum, hcol]
  by_cases h : x (ix2 ⟨c / 8, by omega⟩ n) = BitVec.ofNat 32 (c % 8)
  · rw [if_pos h, h]; simp
  · rw [if_neg h, decide_eq_false (mt (toInt_coe_inj _ _).1 h)]; simp

/-- The named constant is one fifth. -/
theorem fifth_eq : Named.named (F := Ideal) (φ := .f32) κ "fifth" 0x3E4CCCCD#32 = ((1 / 5 : ℝ) : EReal) :=
  IdealRules.named_const.ideal_named_scalar _ _ _ _ rfl

/-- Token `l` of sentence `b` in a block's token order (56 places to a sentence). -/
def tok (b : Fin 256) (l : Fin 50) : Fin 14336 := ⟨b * 56 + l, by omega⟩

/-- The layer norm of a token's column, as the body computes it from the sums of the entries and of their squares. -/
def normed (x : Fin 8 → EReal) (eps : EReal) (k : Fin 8) : EReal :=
  (x k - (∑ j, x j) * ((1 / 5 : ℝ) : EReal))
    * Ideal.rsqrt ((∑ j, x j * x j) * ((1 / 5 : ℝ) : EReal) - (∑ j, x j) * ((1 / 5 : ℝ) : EReal) * ((∑ j, x j) * ((1 / 5 : ℝ) : EReal)) + eps)

/-- One block of the result at sentence `b`, place `l`, column `d`. -/
theorem out_apply (x0 : Vec Ideal S1x112x128 .i32) (x1 : Vec Ideal S8x14336 .f32) (x2 : Vec Ideal S80x256 .f32)
    (b : Fin 256) (l : Fin 50) (d : Fin 256) :
    out1_3 x0 x1 x2 (ix3 b l d)
      = (∑ c : Fin 64, (if field (x0 (ix3 0 ⟨(tok b l : ℕ) / 128, by omega⟩ ⟨(tok b l : ℕ) % 128, by omega⟩)) ⟨c / 8, by omega⟩
            = BitVec.ofNat 32 (c % 8) then 1 else 0) * x2 (ix2 ⟨c, by omega⟩ d))
        + (∑ k : Fin 8, normed (fun j => x1 (ix2 j (tok b l))) (Ideal.ofBits .f32 0x3727C5AC#32) k * x2 (ix2 ⟨64 + k, by omega⟩ d))
        + x2 (ix2 72 d) := by
  have hz2 : (![0, 0] : Fin 2 → ℕ) = fun _ => 0 := by decide
  have hz3 : (![0, 0, 0] : Fin 3 → ℕ) = fun _ => 0 := by decide
  rw [out_eq, View.canon_unit_zero (S := S256x50x256) hz3, View.ld_unit_zero (S := S1x112x128) hz3,
    View.ld_unit_zero (S := S8x14336) hz2, View.ld_unit_zero (S := S80x256) hz2]
  generalize hh : k1_pay187 (F := Ideal) _ _ _ _ _ _ = h
  pointwise [k1_pay1, k1_pay3, k1_pay4, k1_pay188]
  rw [fifth_eq]
  refine congrArg₂ (· + ·) (congrArg₂ (· + ·) (Finset.sum_congr rfl fun c _ => ?_) rfl) rfl
  refine congrArg₂ (· * ·) ?_ rfl
  rw [← hh]
  refine (hot_apply _ _ c).trans ?_
  rw [tokens_apply, planes_apply]
  rfl

end Cert.KernelIdeal.MainBlock
-- ==== Proof.Between.lean ====
/-
  The arrays that the second launch reads: the categories packed eight to a word, the numeric features by rows, and the
  first launch's result.
-/
module

public import proofs.«01_k».proof.Proof.HostValues
public import proofs.«01_k».proof.Proof.PrepBlock
public import proofs.«01_k».proof.Proof.MainBlock
public import Idealize.ShloMosaic.Lib.StableHlo.Predicate

@[expose] public section

set_option maxRecDepth 16384

noncomputable section

namespace Cert.KernelIdeal.Between

open Idealize.ShloMosaic Idealize.ShloMosaic.TcCoe Idealize.SL.Sem Cert.KernelIdeal Cert.KernelIdeal.Gen

/-- Every category shifted to its three bits of the word: rows of 50 filled up to 56 with zeros. -/
def shifted (a0 : Vec Ideal S4096x50x8 .i32) : IVec S1792x128x8 32 :=
  Host.shli
    (shapeCast S1792x128x8 (pad S4096x56x8 ![0, 0, 0] ![0, 6, 0] ![0, 0, 0] a0 (constantI S_ 32 0#32) pads_S4096x50x8_S4096x56x8_000_060_000 h_S_)
      shapeCasts_S4096x56x8_S1792x128x8)
    (broadcastInDim S1792x128x8 ![0, 1, 2] bcast_S1x1x8_S1792x128x8_0_1_2 (broadcastInDim S1x1x8 ![2] bcast_S8_S1x1x8_2
      (muli (broadcastInDim S8 ![] bcast_S_S8 (constantI S_ 32 3#32)) (iotaInDim S8 32 0))))

/-- The packed words. -/
def packed (a0 : Vec Ideal S4096x50x8 .i32) : Vec Ideal S16x112x128 .i32 :=
  shapeCast S16x112x128 (Host.reduce IntOp.addi (shifted a0) (constantI S_ 32 0#32) reducesTo_S1792x128x8_S1792x128_d2 h_S_)
    shapeCasts_S1792x128_S16x112x128

/-- The numeric features, one to a row, rows of zeros below them. -/
def features (a1 : Vec Ideal S4096x50x5 .f32) : Vec Ideal S8x229376 .f32 :=
  pad S8x229376 ![0, 0] ![3, 0] ![0, 0]
    (transpose S5x229376 [1, 0]
      (shapeCast S229376x5 (pad S4096x56x5 ![0, 0, 0] ![0, 6, 0] ![0, 0, 0] a1 HostPrep.fill pads_S4096x50x5_S4096x56x5_000_060_000 h_S_)
        shapeCasts_S4096x56x5_S229376x5) transposes_S229376x5_S5x229376_1_0)
    HostPrep.fill pads_S5x229376_S8x229376_030_000 h_S_

variable (m : (ℓ : Loc nD τ sig) → Buf (Elt Ideal) ℓ) (ρ : Dev nD → PrngReg)

/-- The second launch's first array holds the packed words of the categories. -/
theorem packed_eq (c : Dev nD) : W30 m ρ c (Proc.devRef .tc main_v43) = packed (m ((c : Thread nD τ).loc main_arg0)) := by
  have h : W30 m ρ c (Proc.devRef .tc main_v43) = packed (W24 m ρ c (Proc.devRef .tc main_arg0)) := by
    unfold_abbrev_sides
    after_results
    rfl
  rw [h, W24_args m ρ c main_arg0 (by decide)]

/-- Its second array holds the numeric features. -/
theorem features_eq (c : Dev nD) : W30 m ρ c (Proc.devRef .tc main_v47) = features (m ((c : Thread nD τ).loc main_arg1)) := by
  have h : W30 m ρ c (Proc.devRef .tc main_v47) = features (W24 m ρ c (Proc.devRef .tc main_arg1)) := by
    unfold_abbrev_sides
    after_results
    rfl
  rw [h, W24_args m ρ c main_arg1 (by decide)]

/-- The second launch reads the first launch's table. -/
theorem table_eq (c : Dev nD) : W30 m ρ c (Proc.devRef .tc main_v33)
    = PrepBlock.table
        (HostPrep.small (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7)))
        (HostPrep.weights (m ((c : Thread nD τ).loc main_arg10))) (HostPrep.last (m ((c : Thread nD τ).loc main_arg10)))
        (HostPrep.scale (m ((c : Thread nD τ).loc main_arg8))) (HostPrep.offset (m ((c : Thread nD τ).loc main_arg9)))
        (HostPrep.bias (m ((c : Thread nD τ).loc main_arg11))) := by
  have e : W30 m ρ c (Proc.devRef .tc main_v33) = W24 m ρ c (Proc.devRef .tc main_v33) :=
    (W30_of m ρ c _ (by decide)).trans ((W29_of m ρ c _ (by decide)).trans ((W28_of m ρ c _ (by decide)).trans
      ((W27_of m ρ c _ (by decide)).trans ((W26_of m ρ c _ (by decide)).trans (W25_of m ρ c _ (by decide))))))
  rw [e]
  refine (W24_arr m ρ c 6).trans ((PrepBlock.final (V23 m ρ) c).trans ?_)
  rw [← HostPrep.small_eq m ρ, ← HostPrep.weights_eq m ρ, ← HostPrep.last_eq m ρ, ← HostPrep.scale_eq m ρ, ← HostPrep.offset_eq m ρ,
    ← HostPrep.bias_eq m ρ]

/-- One token's eight categories in a word, three bits each. -/
def word (x : Fin 8 → BitVec 32) : BitVec 32 :=
  (Finset.univ : Finset (Fin 8)).fold IntOp.addi 0#32 fun f => IntOp.shli .host (x f) (IntOp.muli 3#32 (BitVec.ofNat 32 f.val))

/-- Token `56 b + l`, feature `f`: the category at `(b, l, f)` shifted up by `3 f` bits. -/
theorem shifted_apply (a0 : Vec Ideal S4096x50x8 .i32) (r : Fin 1792) (q : Fin 128) (f : Fin 8) (b : Fin 4096) (l : Fin 50)
    (h : b.val * 56 + l.val = r.val * 128 + q.val) :
    shifted a0 (ix3 r q f) = IntOp.shli .host (a0 (ix3 b l f)) (IntOp.muli 3#32 (BitVec.ofNat 32 f.val)) := by
  pointwise [shifted]
  have e1 : (r.val * 1024 + q.val * 8 + f.val) / 448 = b.val := by omega
  have e2 : (r.val * 1024 + q.val * 8 + f.val) / 8 % 56 = l.val := by omega
  rw [dif_pos ⟨by omega, by omega⟩]
  exact congrArg (fun w => IntOp.shli .host w (IntOp.muli 3#32 (BitVec.ofNat 32 f.val)))
    (congrArg₂ (fun i j => a0 (ix3 i j f)) (Fin.ext e1) (Fin.ext e2))

/-- Column `56 b + l` of the numeric features holds the five of position `(b, l)` and three zeros. -/
theorem features_apply (a1 : Vec Ideal S4096x50x5 .f32) (k : Fin 8) (n : Fin 229376) (b : Fin 4096) (l : Fin 50)
    (h : b.val * 56 + l.val = n.val) :
    features a1 (ix2 k n) = if hk : k.val < 5 then a1 (ix3 b l ⟨k.val, hk⟩) else 0 := by
  pointwise [features, HostPrep.fill]
  rw [HostPrep.zero_float]
  split_ifs with h1 h2
  · exact congrArg₂ (fun i j => a1 (ix3 i j ⟨k.val, h1⟩)) (Fin.ext (by dsimp only; omega)) (Fin.ext (by dsimp only; omega))
  · omega
  · rfl

/-- The packed word of token `56 b + l` is the word of the categories at `(b, l)`. -/
theorem packed_apply (a0 : Vec Ideal S4096x50x8 .i32) (t : Fin 16) (r : Fin 112) (q : Fin 128) (b : Fin 4096) (l : Fin 50)
    (h : b.val * 56 + l.val = (t.val * 112 + r.val) * 128 + q.val) :
    packed a0 (ix3 t r q) = word fun f => a0 (ix3 b l f) := by
  have e : packed a0 (ix3 t r q) = Host.reduce IntOp.addi (shifted a0) (constantI S_ 32 0#32) reducesTo_S1792x128x8_S1792x128_d2 h_S_
      (ix2 (⟨t.val * 112 + r.val, by omega⟩ : Fin 1792) q) := by
    pointwise [packed]
  have hr : S1792x128x8.Reduces [2] S1792x128 := by decide
  rw [e, Host.reduce_eq_fold_single IntOp.addi _ _ _ hr]
  refine Finset.fold_congr fun f _ => ?_
  have hl : hr.lift (ix2 (⟨t.val * 112 + r.val, by omega⟩ : Fin 1792) q) f = ix3 (⟨t.val * 112 + r.val, by omega⟩ : Fin 1792) q f := by
    funext a
    match a with
    | ⟨0, _⟩ => rfl
    | ⟨1, _⟩ => rfl
    | ⟨2, _⟩ => rfl
  show shifted a0 (hr.lift _ f) = _
  rw [hl]
  exact shifted_apply a0 _ q f b l h

/-- A category shifted to its place, as a number. -/
theorem shifted_toNat (x : BitVec 32) (hx : x.toNat < 8) (f : Fin 8) :
    (IntOp.shli .host x (IntOp.muli 3#32 (BitVec.ofNat 32 f.val))).toNat = x.toNat * 8 ^ f.val := by
  have e : (IntOp.muli 3#32 (BitVec.ofNat 32 f.val)).toNat = 3 * f.val := by
    revert f
    decide
  unfold IntOp.shli
  rw [if_pos (by rw [e]; omega), BitVec.shiftLeft_eq', BitVec.toNat_shiftLeft, e, Nat.shiftLeft_eq, pow_mul]
  have : (8 : ℕ) ^ f.val ≤ 8 ^ 7 := Nat.pow_le_pow_right (by norm_num) (by omega)
  show x.toNat * 8 ^ f.val % 2 ^ 32 = _
  refine Nat.mod_eq_of_lt ?_
  calc x.toNat * 8 ^ f.val ≤ 7 * 8 ^ 7 := Nat.mul_le_mul (by omega) this
    _ < 2 ^ 32 := by norm_num

/-- The word as a number: the categories are its digits in base eight. -/
theorem word_toNat (x : Fin 8 → BitVec 32) (hx : ∀ f, (x f).toNat < 8) : (word x).toNat = ∑ f : Fin 8, (x f).toNat * 8 ^ f.val := by
  have e : ∑ f : Fin 8, (IntOp.shli .host (x f) (IntOp.muli 3#32 (BitVec.ofNat 32 f.val))).toNat = ∑ f : Fin 8, (x f).toNat * 8 ^ f.val :=
    Finset.sum_congr rfl fun f _ => shifted_toNat (x f) (hx f) f
  unfold word
  rw [StableHlo.Predicate.toNat_fold_addi, e]
  rw [e, Fin.sum_univ_eight]
  have h0 := hx 0; have h1 := hx 1; have h2 := hx 2; have h3 := hx 3
  have h4 := hx 4; have h5 := hx 5; have h6 := hx 6; have h7 := hx 7
  simp only [Fin.val_zero, Fin.val_one, Fin.val_two, Fin.reduceFinMk, Fin.isValue, Fin.coe_ofNat_eq_mod]
  norm_num
  omega

/-- A field of the word is the category that was put there. -/
theorem field_word (x : Fin 8 → BitVec 32) (hx : ∀ f, (x f).toNat < 8) (k : Fin 8) : MainBlock.field (word x) k = x k := by
  have hw := word_toNat x hx
  rw [Fin.sum_univ_eight] at hw
  have h0 := hx 0; have h1 := hx 1; have h2 := hx 2; have h3 := hx 3
  have h4 := hx 4; have h5 := hx 5; have h6 := hx 6; have h7 := hx 7
  simp only [Fin.coe_ofNat_eq_mod] at hw
  norm_num at hw
  have hs : (BitVec.ofNat 32 (3 * k.val)).toNat = 3 * k.val := by
    rw [BitVec.toNat_ofNat]
    omega
  have hm : (word x).msb = false := BitVec.msb_eq_false_iff_two_mul_lt.mpr (by omega)
  apply BitVec.eq_of_toNat_eq
  unfold MainBlock.field IntOp.shrsi IntOp.andi
  rw [if_pos (by rw [hs]; omega), BitVec.toNat_and, BitVec.toNat_sshiftRight'_of_msb_false hm, hs, Nat.shiftRight_eq_div_pow]
  show (word x).toNat / 2 ^ (3 * k.val) &&& 2 ^ 3 - 1 = _
  rw [Nat.and_two_pow_sub_one_eq_mod, pow_mul, hw]
  have hk : k = 0 ∨ k = 1 ∨ k = 2 ∨ k = 3 ∨ k = 4 ∨ k = 5 ∨ k = 6 ∨ k = 7 := by omega
  rcases hk with rfl | rfl | rfl | rfl | rfl | rfl | rfl | rfl <;> norm_num <;> omega

end Cert.KernelIdeal.Between

end
-- ==== Proof.KernelValue.lean ====
/-
  The kernel's result at an index, from the arrays that its second launch reads.
-/
module

public import proofs.«01_k».proof.Proof.MainBlock
public import Idealize.ShloMosaic.Lib.Pipeline.ValueKit
public import Idealize.ShloMosaic.Lib.Pointwise

@[expose] public section

set_option maxRecDepth 16384

noncomputable section

namespace Cert.KernelIdeal.KernelValue

open Idealize.ShloMosaic Idealize.ShloMosaic.TcCoe Idealize.SL.Sem Cert.KernelIdeal Cert.KernelIdeal.Gen MainBlock

variable (V : (c : Dev nD) → (b : Ref sig .tc) → Buf (Elt Ideal) ((c : Thread nD τ).loc b))

/-- The result at sentence `256 t + b`, place `l`, column `d`: the rows of the table that the word's fields name, the
    normalised features times their rows, and the table's last row. -/
def entry (x0 : Vec Ideal S16x112x128 .i32) (x1 : Vec Ideal S8x229376 .f32) (x2 : Vec Ideal S80x256 .f32)
    (t : Fin 16) (b : Fin 256) (l : Fin 50) (d : Fin 256) : EReal :=
  (∑ c : Fin 64, (if field (x0 (ix3 t ⟨(tok b l : ℕ) / 128, by omega⟩ ⟨(tok b l : ℕ) % 128, by omega⟩)) ⟨c / 8, by omega⟩
      = BitVec.ofNat 32 (c % 8) then 1 else 0) * x2 (ix2 ⟨c, by omega⟩ d))
    + (∑ k : Fin 8, normed (fun j => x1 (ix2 j ⟨t * 14336 + (tok b l : ℕ), by omega⟩)) (Ideal.ofBits .f32 0x3727C5AC#32) k
        * x2 (ix2 ⟨64 + k, by omega⟩ d))
    + x2 (ix2 72 d)

/-- The whole result. -/
def result (x0 : Vec Ideal S16x112x128 .i32) (x1 : Vec Ideal S8x229376 .f32) (x2 : Vec Ideal S80x256 .f32) :
    Vec Ideal S4096x50x256 .f32 := fun i =>
  entry x0 x1 x2 ⟨(i 0 : ℕ) / 256, Nat.div_lt_of_lt_mul (i 0).2⟩ ⟨(i 0 : ℕ) % 256, Nat.mod_lt _ (by norm_num)⟩ (i 1) (i 2)

/-- Grid point `t` reads plane `t` of the packed words. -/
theorem blk_packed (c : Dev nD) (t : Fin cfg1.N) (r : Fin 112) (q : Fin 128) :
    iblk1 V c 0 t (ix3 0 r q) = (V c main_v43 : Vec Ideal S16x112x128 .i32) (ix3 (⟨t, t.2⟩ : Fin 16) r q) := by
  have idx : ∀ t : Fin cfg1.N, win1_0.index t = ![t.val, 0, 0] := by decide +kernel
  blk_ext [iblk1, idx t]

/-- Grid point `t` reads the 14336 columns of the features from `14336 t` on. -/
theorem blk_features (c : Dev nD) (t : Fin cfg1.N) (j : Fin 8) (n : Fin 14336) (h : t.val * 14336 + n.val < 229376) :
    iblk1 V c 1 t (ix2 j n) = (V c main_v47 : Vec Ideal S8x229376 .f32) (ix2 j ⟨t.val * 14336 + n.val, h⟩) := by
  have idx : ∀ t : Fin cfg1.N, win1_1.index t = ![0, t.val] := by decide +kernel
  blk_ext [iblk1, idx t]

/-- Every grid point reads the whole table. -/
theorem blk_table (c : Dev nD) (t : Fin cfg1.N) (r : Fin 80) (d : Fin 256) :
    iblk1 V c 2 t (ix2 r d) = (V c main_v33 : Vec Ideal S80x256 .f32) (ix2 r d) := by
  have idx : ∀ t : Fin cfg1.N, win1_2.index t = ![0, 0] := by decide +kernel
  blk_ext [iblk1, idx t]

/-- The result at batch `256 t + b` is grid point `t`'s entry for its row `b`. -/
theorem result_apply (x0 : Vec Ideal S16x112x128 .i32) (x1 : Vec Ideal S8x229376 .f32) (x2 : Vec Ideal S80x256 .f32)
    (t : Fin 16) (b : Fin 256) (l : Fin 50) (d : Fin 256) :
    result x0 x1 x2 (ix3 ⟨t.val * 256 + b.val, by omega⟩ l d) = entry x0 x1 x2 t b l d := by
  have e1 : (⟨(t.val * 256 + b.val) / 256, by omega⟩ : Fin 16) = t := Fin.ext (by dsimp only; omega)
  have e2 : (⟨(t.val * 256 + b.val) % 256, by omega⟩ : Fin 256) = b := Fin.ext (by dsimp only; omega)
  exact congrArg₂ (fun t b => entry x0 x1 x2 t b l d) e1 e2

/-- The second launch leaves the result of its three arrays. -/
theorem final (c : Dev nD) : (dat1 V c).arrAt 3 cfg1.N = result (V c main_v43) (V c main_v47) (V c main_v33) := by
  refine (dat1 V c).arrAt_eq_of_covers 3 _ (by decide +kernel) fun t hf y => ?_
  have idx : ∀ t : Fin cfg1.N, win1_3.index t = ![t.val, 0, 0] := by decide +kernel
  blk_simp
  rw [after1_3]
  idx_vars y
  have ht : t.val < 16 := t.2
  have e : (((View.whole main_v48).slice (win1_3.rect t)).emb (ix3 y0 y1 y2)) = ix3 (⟨t.val * 256 + y0.val, by omega⟩ : Fin 4096) y1 y2 := by
    blk_ext [idx t]
  rw [e]
  refine (out_apply _ _ _ y0 y1 y2).trans (Eq.trans ?_ (result_apply (V c main_v43) (V c main_v47) (V c main_v33) ⟨t.val, ht⟩ y0 y1 y2).symm)
  unfold entry
  refine congrArg₂ (· + ·) (congrArg₂ (· + ·) (Finset.sum_congr rfl fun k _ => ?_) (Finset.sum_congr rfl fun k _ => ?_)) (blk_table V c t _ _)
  · rw [blk_packed V c t, blk_table V c t]
  · rw [blk_table V c t]
    refine congrArg₂ (· * ·) (congrArg (fun f => normed f _ k) (funext fun j => ?_)) rfl
    exact blk_features V c t j _ (by omega)

end Cert.KernelIdeal.KernelValue

end
-- ==== Proof.Categories.lean ====
/-
  The part of the second launch's sums that the categories contribute: the one-hot rows pick one row of each feature's
  table, and of the eight tables only one has an entry in any column.
-/
module

public import proofs.«01_k».proof.Proof.HostValues
public import proofs.«01_k».proof.Proof.PrepBlock
public import Idealize.ShloMosaic.Lib.Pipeline.ValueKit

@[expose] public section

set_option maxRecDepth 16384

noncomputable section

namespace Cert.KernelIdeal.Categories

open Idealize.ShloMosaic Idealize.ShloMosaic.TcCoe Idealize.SL.Sem Cert.KernelIdeal Cert.KernelIdeal.Gen
  Cert.KernelIdeal.HostPrep

/-- In its own columns a placed table shows its row. -/
theorem placed_inside (off : Nat) {n : Nat} (T : Fin 8 → Fin n → EReal) (r : Fin 8) (k : Fin 256)
    (h : off ≤ k.val ∧ k.val < off + n) : placed off T r k = T r ⟨k.val - off, by omega⟩ := dif_pos h

/-- In all others it is zero. -/
theorem placed_outside (off : Nat) {n : Nat} (T : Fin 8 → Fin n → EReal) (r : Fin 8) (k : Fin 256)
    (h : ¬(off ≤ k.val ∧ k.val < off + n)) : placed off T r k = 0 := dif_neg h

variable (a2 : Vec Ideal S30000x64 .f32) (a3 : Vec Ideal S8x16 .f32) (a4 : Vec Ideal S32x32 .f32)
  (a5 : Vec Ideal S64x16 .f32) (a6 : Vec Ideal S8x8 .f32) (a7 : Vec Ideal S12000x64 .f32) (r : Fin 8 → Fin 8)

/-- The joined row of the eight features' rows, feature `f` at category `r f`. -/
def chosen (k : Fin 248) : EReal :=
  if h0 : k.val < 64 then a2 (ix2 (⟨(r 1).val, by omega⟩ : Fin 30000) ⟨k.val, h0⟩)
  else if h1 : k.val < 80 then a3 (ix2 (r 0) ⟨k.val - 64, by omega⟩)
  else if h2 : k.val < 96 then a3 (ix2 (r 2) ⟨k.val - 80, by omega⟩)
  else if h3 : k.val < 128 then a4 (ix2 (⟨(r 4).val, by omega⟩ : Fin 32) ⟨k.val - 96, by omega⟩)
  else if h4 : k.val < 160 then a4 (ix2 (⟨(r 6).val, by omega⟩ : Fin 32) ⟨k.val - 128, by omega⟩)
  else if h5 : k.val < 176 then a5 (ix2 (⟨(r 7).val, by omega⟩ : Fin 64) ⟨k.val - 160, by omega⟩)
  else if h6 : k.val < 184 then a6 (ix2 (r 3) ⟨k.val - 176, by omega⟩)
  else a7 (ix2 (⟨(r 5).val, by omega⟩ : Fin 12000) ⟨k.val - 184, by omega⟩)

/-- In every column at most one table has an entry: the eight products add up to the joined row's. -/
theorem sum_tables (k : Fin 256) (w : EReal) : ∑ f : Fin 8, tables a2 a3 a4 a5 a6 a7 f (ix2 (r f) k) * w
    = if h : k.val < 248 then chosen a2 a3 a4 a5 a6 a7 r ⟨k.val, h⟩ * w else 0 := by
  rw [Fin.sum_univ_eight]
  show baseBefore a3 (ix2 (r 0) k) * w + pos a2 (ix2 (r 1) k) * w + baseAfter a3 (ix2 (r 2) k) * w + codon a6 (ix2 (r 3) k) * w + aaBefore a4 (ix2 (r 4) k) * w + protein a7 (ix2 (r 5) k) * w + aaAfter a4 (ix2 (r 6) k) * w + region a5 (ix2 (r 7) k) * w = _
  rw [baseBefore_apply, pos_apply, baseAfter_apply, codon_apply, aaBefore_apply, protein_apply, aaAfter_apply, region_apply]
  obtain h | h | h | h | h | h | h | h | h :
      k.val < 64 ∨ (64 ≤ k.val ∧ k.val < 80) ∨ (80 ≤ k.val ∧ k.val < 96) ∨ (96 ≤ k.val ∧ k.val < 128)
        ∨ (128 ≤ k.val ∧ k.val < 160) ∨ (160 ≤ k.val ∧ k.val < 176) ∨ (176 ≤ k.val ∧ k.val < 184)
        ∨ (184 ≤ k.val ∧ k.val < 248) ∨ 248 ≤ k.val := by omega
  · rw [placed_outside _ _ _ _ (show ¬(64 ≤ k.val ∧ k.val < 64 + 16) by omega),
      placed_inside _ _ _ _ (show 0 ≤ k.val ∧ k.val < 0 + 64 from ⟨by omega, by omega⟩),
      placed_outside _ _ _ _ (show ¬(80 ≤ k.val ∧ k.val < 80 + 16) by omega),
      placed_outside _ _ _ _ (show ¬(176 ≤ k.val ∧ k.val < 176 + 8) by omega),
      placed_outside _ _ _ _ (show ¬(96 ≤ k.val ∧ k.val < 96 + 32) by omega),
      placed_outside _ _ _ _ (show ¬(184 ≤ k.val ∧ k.val < 184 + 64) by omega),
      placed_outside _ _ _ _ (show ¬(128 ≤ k.val ∧ k.val < 128 + 32) by omega),
      placed_outside _ _ _ _ (show ¬(160 ≤ k.val ∧ k.val < 160 + 16) by omega)]
    simp only [zero_mul, zero_add, add_zero]
    unfold chosen
    rw [dif_pos (show k.val < 248 by omega), dif_pos (by dsimp only; omega)]
    rfl
  · rw [placed_inside _ _ _ _ (show 64 ≤ k.val ∧ k.val < 64 + 16 from ⟨by omega, by omega⟩),
      placed_outside _ _ _ _ (show ¬(0 ≤ k.val ∧ k.val < 0 + 64) by omega),
      placed_outside _ _ _ _ (show ¬(80 ≤ k.val ∧ k.val < 80 + 16) by omega),
      placed_outside _ _ _ _ (show ¬(176 ≤ k.val ∧ k.val < 176 + 8) by omega),
      placed_outside _ _ _ _ (show ¬(96 ≤ k.val ∧ k.val < 96 + 32) by omega),
      placed_outside _ _ _ _ (show ¬(184 ≤ k.val ∧ k.val < 184 + 64) by omega),
      placed_outside _ _ _ _ (show ¬(128 ≤ k.val ∧ k.val < 128 + 32) by omega),
      placed_outside _ _ _ _ (show ¬(160 ≤ k.val ∧ k.val < 160 + 16) by omega)]
    simp only [zero_mul, zero_add, add_zero]
    unfold chosen
    rw [dif_pos (show k.val < 248 by omega), dif_neg (by dsimp only; omega), dif_pos (by dsimp only; omega)]
  · rw [placed_outside _ _ _ _ (show ¬(64 ≤ k.val ∧ k.val < 64 + 16) by omega),
      placed_outside _ _ _ _ (show ¬(0 ≤ k.val ∧ k.val < 0 + 64) by omega),
      placed_inside _ _ _ _ (show 80 ≤ k.val ∧ k.val < 80 + 16 from ⟨by omega, by omega⟩),
      placed_outside _ _ _ _ (show ¬(176 ≤ k.val ∧ k.val < 176 + 8) by omega),
      placed_outside _ _ _ _ (show ¬(96 ≤ k.val ∧ k.val < 96 + 32) by omega),
      placed_outside _ _ _ _ (show ¬(184 ≤ k.val ∧ k.val < 184 + 64) by omega),
      placed_outside _ _ _ _ (show ¬(128 ≤ k.val ∧ k.val < 128 + 32) by omega),
      placed_outside _ _ _ _ (show ¬(160 ≤ k.val ∧ k.val < 160 + 16) by omega)]
    simp only [zero_mul, zero_add, add_zero]
    unfold chosen
    rw [dif_pos (show k.val < 248 by omega), dif_neg (by dsimp only; omega), dif_neg (by dsimp only; omega), dif_pos (by dsimp only; omega)]
  · rw [placed_outside _ _ _ _ (show ¬(64 ≤ k.val ∧ k.val < 64 + 16) by omega),
      placed_outside _ _ _ _ (show ¬(0 ≤ k.val ∧ k.val < 0 + 64) by omega),
      placed_outside _ _ _ _ (show ¬(80 ≤ k.val ∧ k.val < 80 + 16) by omega),
      placed_outside _ _ _ _ (show ¬(176 ≤ k.val ∧ k.val < 176 + 8) by omega),
      placed_inside _ _ _ _ (show 96 ≤ k.val ∧ k.val < 96 + 32 from ⟨by omega, by omega⟩),
      placed_outside _ _ _ _ (show ¬(184 ≤ k.val ∧ k.val < 184 + 64) by omega),
      placed_outside _ _ _ _ (show ¬(128 ≤ k.val ∧ k.val < 128 + 32) by omega),
      placed_outside _ _ _ _ (show ¬(160 ≤ k.val ∧ k.val < 160 + 16) by omega)]
    simp only [zero_mul, zero_add, add_zero]
    unfold chosen
    rw [dif_pos (show k.val < 248 by omega), dif_neg (by dsimp only; omega), dif_neg (by dsimp only; omega), dif_neg (by dsimp only; omega), dif_pos (by dsimp only; omega)]
  · rw [placed_outside _ _ _ _ (show ¬(64 ≤ k.val ∧ k.val < 64 + 16) by omega),
      placed_outside _ _ _ _ (show ¬(0 ≤ k.val ∧ k.val < 0 + 64) by omega),
      placed_outside _ _ _ _ (show ¬(80 ≤ k.val ∧ k.val < 80 + 16) by omega),
      placed_outside _ _ _ _ (show ¬(176 ≤ k.val ∧ k.val < 176 + 8) by omega),
      placed_outside _ _ _ _ (show ¬(96 ≤ k.val ∧ k.val < 96 + 32) by omega),
      placed_outside _ _ _ _ (show ¬(184 ≤ k.val ∧ k.val < 184 + 64) by omega),
      placed_inside _ _ _ _ (show 128 ≤ k.val ∧ k.val < 128 + 32 from ⟨by omega, by omega⟩),
      placed_outside _ _ _ _ (show ¬(160 ≤ k.val ∧ k.val < 160 + 16) by omega)]
    simp only [zero_mul, zero_add, add_zero]
    unfold chosen
    rw [dif_pos (show k.val < 248 by omega), dif_neg (by dsimp only; omega), dif_neg (by dsimp only; omega), dif_neg (by dsimp only; omega), dif_neg (by dsimp only; omega), dif_pos (by dsimp only; omega)]
  · rw [placed_outside _ _ _ _ (show ¬(64 ≤ k.val ∧ k.val < 64 + 16) by omega),
      placed_outside _ _ _ _ (show ¬(0 ≤ k.val ∧ k.val < 0 + 64) by omega),
      placed_outside _ _ _ _ (show ¬(80 ≤ k.val ∧ k.val < 80 + 16) by omega),
      placed_outside _ _ _ _ (show ¬(176 ≤ k.val ∧ k.val < 176 + 8) by omega),
      placed_outside _ _ _ _ (show ¬(96 ≤ k.val ∧ k.val < 96 + 32) by omega),
      placed_outside _ _ _ _ (show ¬(184 ≤ k.val ∧ k.val < 184 + 64) by omega),
      placed_outside _ _ _ _ (show ¬(128 ≤ k.val ∧ k.val < 128 + 32) by omega),
      placed_inside _ _ _ _ (show 160 ≤ k.val ∧ k.val < 160 + 16 from ⟨by omega, by omega⟩)]
    simp only [zero_mul, zero_add, add_zero]
    unfold chosen
    rw [dif_pos (show k.val < 248 by omega), dif_neg (by dsimp only; omega), dif_neg (by dsimp only; omega), dif_neg (by dsimp only; omega), dif_neg (by dsimp only; omega), dif_neg (by dsimp only; omega), dif_pos (by dsimp only; omega)]
  · rw [placed_outside _ _ _ _ (show ¬(64 ≤ k.val ∧ k.val < 64 + 16) by omega),
      placed_outside _ _ _ _ (show ¬(0 ≤ k.val ∧ k.val < 0 + 64) by omega),
      placed_outside _ _ _ _ (show ¬(80 ≤ k.val ∧ k.val < 80 + 16) by omega),
      placed_inside _ _ _ _ (show 176 ≤ k.val ∧ k.val < 176 + 8 from ⟨by omega, by omega⟩),
      placed_outside _ _ _ _ (show ¬(96 ≤ k.val ∧ k.val < 96 + 32) by omega),
      placed_outside _ _ _ _ (show ¬(184 ≤ k.val ∧ k.val < 184 + 64) by omega),
      placed_outside _ _ _ _ (show ¬(128 ≤ k.val ∧ k.val < 128 + 32) by omega),
      placed_outside _ _ _ _ (show ¬(160 ≤ k.val ∧ k.val < 160 + 16) by omega)]
    simp only [zero_mul, zero_add, add_zero]
    unfold chosen
    rw [dif_pos (show k.val < 248 by omega), dif_neg (by dsimp only; omega), dif_neg (by dsimp only; omega), dif_neg (by dsimp only; omega), dif_neg (by dsimp only; omega), dif_neg (by dsimp only; omega), dif_neg (by dsimp only; omega), dif_pos (by dsimp only; omega)]
  · rw [placed_outside _ _ _ _ (show ¬(64 ≤ k.val ∧ k.val < 64 + 16) by omega),
      placed_outside _ _ _ _ (show ¬(0 ≤ k.val ∧ k.val < 0 + 64) by omega),
      placed_outside _ _ _ _ (show ¬(80 ≤ k.val ∧ k.val < 80 + 16) by omega),
      placed_outside _ _ _ _ (show ¬(176 ≤ k.val ∧ k.val < 176 + 8) by omega),
      placed_outside _ _ _ _ (show ¬(96 ≤ k.val ∧ k.val < 96 + 32) by omega),
      placed_inside _ _ _ _ (show 184 ≤ k.val ∧ k.val < 184 + 64 from ⟨by omega, by omega⟩),
      placed_outside _ _ _ _ (show ¬(128 ≤ k.val ∧ k.val < 128 + 32) by omega),
      placed_outside _ _ _ _ (show ¬(160 ≤ k.val ∧ k.val < 160 + 16) by omega)]
    simp only [zero_mul, zero_add, add_zero]
    unfold chosen
    rw [dif_pos (show k.val < 248 by omega), dif_neg (by dsimp only; omega), dif_neg (by dsimp only; omega), dif_neg (by dsimp only; omega), dif_neg (by dsimp only; omega), dif_neg (by dsimp only; omega), dif_neg (by dsimp only; omega), dif_neg (by dsimp only; omega)]
  · rw [placed_outside _ _ _ _ (show ¬(64 ≤ k.val ∧ k.val < 64 + 16) by omega),
      placed_outside _ _ _ _ (show ¬(0 ≤ k.val ∧ k.val < 0 + 64) by omega),
      placed_outside _ _ _ _ (show ¬(80 ≤ k.val ∧ k.val < 80 + 16) by omega),
      placed_outside _ _ _ _ (show ¬(176 ≤ k.val ∧ k.val < 176 + 8) by omega),
      placed_outside _ _ _ _ (show ¬(96 ≤ k.val ∧ k.val < 96 + 32) by omega),
      placed_outside _ _ _ _ (show ¬(184 ≤ k.val ∧ k.val < 184 + 64) by omega),
      placed_outside _ _ _ _ (show ¬(128 ≤ k.val ∧ k.val < 128 + 32) by omega),
      placed_outside _ _ _ _ (show ¬(160 ≤ k.val ∧ k.val < 160 + 16) by omega)]
    simp only [zero_mul, add_zero]
    rw [dif_neg (by omega)]

/-- A sum against the one-hot rows of eight words: one term for each feature. -/
theorem sum_one_hot (x : Fin 8 → BitVec 32) (hr : ∀ f, (x f).toNat = (r f).val) (g : Fin 64 → EReal) :
    ∑ c : Fin 64, (if x ⟨c.val / 8, by omega⟩ = BitVec.ofNat 32 (c.val % 8) then 1 else 0) * g c
      = ∑ f : Fin 8, g ⟨8 * f.val + (r f).val, by omega⟩ := by
  have e := Fin.sum_univ_mul_divmod 8 8 fun a b => if h : a < 8 ∧ b < 8 then
    (if x ⟨a, h.1⟩ = BitVec.ofNat 32 b then (1 : EReal) else 0) * g ⟨8 * a + b, by omega⟩ else 0
  refine Eq.trans (Finset.sum_congr rfl fun c _ => ?_) (e.trans (Finset.sum_congr rfl fun f _ => ?_))
  · have hc := c.isLt
    rw [dif_pos ⟨by omega, by omega⟩]
    exact congrArg (fun q => (if x ⟨c.val / 8, by omega⟩ = BitVec.ofNat 32 (c.val % 8) then (1 : EReal) else 0) * g q)
      (Fin.ext (by dsimp only; omega))
  · rw [Finset.sum_eq_single (r f)]
    · rw [dif_pos ⟨f.isLt, (r f).isLt⟩, if_pos, one_mul]
      have hf := (r f).isLt
      refine BitVec.eq_of_toNat_eq ?_
      show (x f).toNat = _
      rw [hr f, BitVec.toNat_ofNat, Nat.mod_eq_of_lt (by omega)]
    · intro b _ hb
      rw [dif_pos ⟨f.isLt, b.isLt⟩, if_neg, zero_mul]
      intro hx
      refine hb (Fin.ext ?_)
      rw [← hr f, show x f = BitVec.ofNat 32 b.val from hx]
      simp only [BitVec.toNat_ofNat]
      omega
    · intro h
      exact absurd (Finset.mem_univ _) h

/-- The categories' part at column `d`: the joined row against the first 248 rows of the weights. -/
theorem part (x : Fin 8 → BitVec 32) (hr : ∀ f, (x f).toNat = (r f).val) (n : Vec Ideal S8x256 .f32)
    (g o : Vec Ideal S8x8 .f32) (b : Vec Ideal S8x256 .f32) (a10 : Vec Ideal S253x256 .f32) (d : Fin 256) :
    ∑ c : Fin 64, (if x ⟨c.val / 8, by omega⟩ = BitVec.ofNat 32 (c.val % 8) then 1 else 0)
        * PrepBlock.table (small a2 a3 a4 a5 a6 a7) (weights a10) n g o b (ix2 ⟨c.val, by omega⟩ d)
      = ∑ k : Fin 248, chosen a2 a3 a4 a5 a6 a7 r k * a10 (ix2 ⟨k.val, by omega⟩ d) := by
  rw [sum_one_hot r x hr fun c => PrepBlock.table (small a2 a3 a4 a5 a6 a7) (weights a10) n g o b (ix2 ⟨c.val, by omega⟩ d)]
  have e : ∀ f : Fin 8, PrepBlock.table (small a2 a3 a4 a5 a6 a7) (weights a10) n g o b
      (ix2 ⟨(⟨8 * f.val + (r f).val, by omega⟩ : Fin 64).val, by omega⟩ d)
      = ∑ k : Fin 256, tables a2 a3 a4 a5 a6 a7 f (ix2 (r f) k) * weights a10 (ix2 k d) := fun f => by
    refine (PrepBlock.table_small (small a2 a3 a4 a5 a6 a7) (weights a10) n g o b ⟨8 * f.val + (r f).val, by omega⟩ d).trans ?_
    exact Finset.sum_congr rfl fun k _ => by rw [small_apply]
  rw [Finset.sum_congr rfl fun f _ => e f, Finset.sum_comm, Finset.sum_congr rfl fun k _ => sum_tables a2 a3 a4 a5 a6 a7 r k _,
    Fin.sum_univ_two_halves 248 8 rfl]
  rw [Finset.sum_eq_zero (s := Finset.univ (α := Fin 8)) fun k _ => dif_neg (by dsimp only; omega), add_zero]
  refine Finset.sum_congr rfl fun k _ => ?_
  have hk := k.isLt
  rw [dif_pos hk, weights_apply, dif_pos (show k.val < 253 by omega)]

end Cert.KernelIdeal.Categories

end
-- ==== Proof.Lookup.lean ====
/-
  One table lookup of the reference: negative indices counted from the end, indices out of range answered with the
  filler, the rest by the rows they name. Written once for a table of any number of rows and columns.
-/
module

public import proofs.«01_k».proof.Proof.Gen.ReferenceIdeal.Read
public import Idealize.ShloMosaic.Lib.StableHlo.Predicate
public import Idealize.ShloMosaic.Lib.Pointwise
public import Idealize.ShloMosaic.Lib.ReduceAll
public import Idealize.ShloMosaic.Lib.Routing.OpsPair

@[expose] public section

set_option maxRecDepth 16384

noncomputable section

namespace Cert.ReferenceIdeal.Lookup

open Idealize.ShloMosaic Idealize.ShloMosaic.TcCoe Idealize.SL.Sem Cert.ReferenceIdeal Cert.ReferenceIdeal.Gen

variable {N D : Nat}

/-- The indices with negative ones counted from the end of a table of `size` rows, each as a vector of one entry. -/
def starts (size : BitVec 32) (idx : IVec S4096x50 32) : IVec S4096x50x1 32 :=
  broadcastInDim S4096x50x1 ![0, 1] bcast_S4096x50_S4096x50x1_0_1
    (select (cmpi .slt idx (broadcastInDim S4096x50 ![] bcast_S_S4096x50 (constantI S_ 32 0#32)))
      (addi idx (broadcastInDim S4096x50 ![] bcast_S_S4096x50 (constantI S_ 32 size))) idx)

/-- Whether each index lies between 0 and `top`. -/
def inside (size top : BitVec 32) (idx : IVec S4096x50 32) : IVec S4096x50x1 1 :=
  andi (cmpi .sge (starts size idx) (broadcastInDim S4096x50x1 ![] bcast_S_S4096x50x1 (constantI S_ 32 0#32)))
    (cmpi .sle (starts size idx) (broadcastInDim S4096x50x1 ![0, 1, 2] bcast_S1x1x1_S4096x50x1_0_1_2
      (broadcastInDim S1x1x1 ![2] bcast_S1_S1x1x1_2 (constantI S1 32 top))))

/-- The dimension numbers of the row lookup: the indices name rows, a row is copied whole. -/
abbrev rowDims (N D : Nat)
    (wf : GatherDims.WF ⟨2, ![N, D]⟩ S4096x50x1 ⟨3, ![4096, 50, D]⟩ [2] [0] [] [0] [] 2 ![1, D]) :
    GatherDims ⟨2, ![N, D]⟩ S4096x50x1 ⟨3, ![4096, 50, D]⟩ where
  offsetDims := [2]
  collapsedSliceDims := [0]
  operandBatchingDims := []
  startIndicesBatchingDims := []
  startIndexMap := [0]
  indexVectorDim := 2
  sliceSizes := ![1, D]
  wf := wf

/-- The whole lookup. -/
def taken (wf : GatherDims.WF ⟨2, ![N, D]⟩ S4096x50x1 ⟨3, ![4096, 50, D]⟩ [2] [0] [] [0] [] 2 ![1, D])
    (h : S4096x50.BroadcastsInDim ⟨3, ![4096, 50, D]⟩ ![0, 1]) (h' : S_.BroadcastsInDim ⟨3, ![4096, 50, D]⟩ ![])
    (size top : BitVec 32) (idx : IVec S4096x50 32) (T : Vec Ideal ⟨2, ![N, D]⟩ .f32) : Vec Ideal ⟨3, ![4096, 50, D]⟩ .f32 :=
  select (broadcastInDim ⟨3, ![4096, 50, D]⟩ ![0, 1] h
      (Host.reduce IntOp.andi (inside size top idx) (constantI S_ 1 1#1) reducesTo_S4096x50x1_S4096x50_d2 h_S_))
    (Host.gather (rowDims N D wf) T (starts size idx))
    (broadcastInDim ⟨3, ![4096, 50, D]⟩ ![] h' (constant (F := Ideal) S_ .f32 0x7FC00000#32))

/-- The row lookup at an index whose word is the small number `r`: row `r` of the table. -/
theorem row_of_word (wf : GatherDims.WF ⟨2, ![N, D]⟩ S4096x50x1 ⟨3, ![4096, 50, D]⟩ [2] [0] [] [0] [] 2 ![1, D])
    (T : Vec Ideal ⟨2, ![N, D]⟩ .f32) (si : IVec S4096x50x1 32) (b : Fin 4096) (l : Fin 50) (d : Fin D) (r : Fin N)
    (hr : (si (ix3 b l 0)).toInt = r.val) : Host.gather (rowDims N D wf) T si (ix3 b l d) = T (ix2 r d) := by
  have hsi : ∀ c, (rowDims N D wf).siIdx (ix3 b l d) c = ix3 b l 0 := by
    intro c
    funext a
    apply Fin.ext
    match a with
    | ⟨0, _⟩ => rfl
    | ⟨1, _⟩ => rfl
    | ⟨2, _⟩ => exact Nat.lt_one_iff.1 c.isLt
  unfold Host.gather
  refine congrArg T (funext fun a => Fin.ext ?_)
  match a with
  | ⟨0, _⟩ =>
    show (rowDims N D wf).start (ix3 b l d) si 0 + (rowDims N D wf).batchCoord (ix3 b l d) 0
      + (rowDims N D wf).offCoord (ix3 b l d) 0 = r.val
    rw [GatherDims.batchCoord_eq_zero _ _ _ (by exact List.not_mem_nil),
      GatherDims.offCoord_eq_zero _ _ _ (fun hk => ((GatherDims.mem_sKept _ _).1 hk).1 (List.mem_singleton.2 rfl))]
    unfold GatherDims.start
    rw [dif_pos (List.mem_singleton.2 rfl), hsi, hr]
    show min ((r.val : Int)).toNat (N - 1) + 0 + 0 = r.val
    have := r.isLt
    omega
  | ⟨1, _⟩ =>
    show (rowDims N D wf).start (ix3 b l d) si 1 + (rowDims N D wf).batchCoord (ix3 b l d) 1
      + (rowDims N D wf).offCoord (ix3 b l d) 1 = d.val
    have h0 : (1 : Fin 2) ∉ [(0 : Fin 2)] := by decide
    rw [GatherDims.batchCoord_eq_zero _ _ _ (by exact List.not_mem_nil)]
    unfold GatherDims.start GatherDims.offCoord
    rw [dif_neg h0, dif_pos ((GatherDims.mem_sKept _ _).2 ⟨h0, List.not_mem_nil⟩)]
    show 0 + 0 + d.val = d.val
    omega

/-- A small index is its own start. -/
theorem starts_apply (size : BitVec 32) (idx : IVec S4096x50 32) (b : Fin 4096) (l : Fin 50) (z : Fin 1)
    (h : (idx (ix2 b l)).toNat < 8) : starts size idx (ix3 b l z) = idx (ix2 b l) := by
  have e : starts size idx (ix3 b l z)
      = Scalar.select (IntOp.cmpi .slt (idx (ix2 b l)) 0#32) (IntOp.addi (idx (ix2 b l)) size) (idx (ix2 b l)) := by
    pointwise [starts]
  rw [e]
  exact Routing.wrap_of_lt _ _ (by omega)

/-- Small indices lie inside every table of eight rows or more. -/
theorem inside_apply (size top : BitVec 32) (idx : IVec S4096x50 32) (h : ∀ b l, (idx (ix2 b l)).toNat < 8)
    (h7 : 7 ≤ top.toNat) (htop : top.toNat < 2 ^ 31) (i : S4096x50x1.Idx) : inside size top idx i = 1#1 := by
  obtain ⟨b, l, z, rfl⟩ : ∃ (b : Fin 4096) (l : Fin 50) (z : Fin 1), i = ix3 b l z := ⟨i 0, i 1, i 2, ValueIdx.eq_ix3 i⟩
  have e : inside size top idx (ix3 b l z)
      = IntOp.andi (IntOp.cmpi .sge (starts size idx (ix3 b l z)) 0#32) (IntOp.cmpi .sle (starts size idx (ix3 b l z)) top) := by
    pointwise [inside]
  have hb := h b l
  rw [e, starts_apply size idx b l z hb, (StableHlo.Predicate.sge_iff_toNat (by omega) (by decide)).2 (Nat.zero_le _),
    (StableHlo.Predicate.sle_iff_toNat (by omega) htop).2 (by omega)]
  rfl

/-- The lookup at small indices: the rows that they name. -/
theorem taken_apply (wf : GatherDims.WF ⟨2, ![N, D]⟩ S4096x50x1 ⟨3, ![4096, 50, D]⟩ [2] [0] [] [0] [] 2 ![1, D])
    (h : S4096x50.BroadcastsInDim ⟨3, ![4096, 50, D]⟩ ![0, 1]) (h' : S_.BroadcastsInDim ⟨3, ![4096, 50, D]⟩ ![])
    (size top : BitVec 32) (idx : IVec S4096x50 32) (T : Vec Ideal ⟨2, ![N, D]⟩ .f32)
    (hidx : ∀ b l, (idx (ix2 b l)).toNat < 8) (h7 : 7 ≤ top.toNat) (htop : top.toNat < 2 ^ 31)
    (b : Fin 4096) (l : Fin 50) (d : Fin D) (hN : (idx (ix2 b l)).toNat < N) :
    taken wf h h' size top idx T (ix3 b l d) = T (ix2 ⟨(idx (ix2 b l)).toNat, hN⟩ d) := by
  have hb := hidx b l
  have hc : broadcastInDim ⟨3, ![4096, 50, D]⟩ ![0, 1] h
      (Host.reduce IntOp.andi (inside size top idx) (constantI S_ 1 1#1) reducesTo_S4096x50x1_S4096x50_d2 h_S_) (ix3 b l d)
      = 1#1 := Host.reduce_andi_one _ _ _ _ _ rfl (inside_apply size top idx hidx h7 htop)
  unfold taken
  rw [ValueIdx.select_apply, hc]
  refine Eq.trans (if_pos rfl) (row_of_word wf T _ b l d ⟨_, hN⟩ ?_)
  rw [starts_apply size idx b l 0 hb]
  rw [BitVec.toInt_eq_toNat_of_lt (by omega)]

end Cert.ReferenceIdeal.Lookup

end
-- ==== Proof.NumRow.lean ====
/-
  The reference's normalized numeric features over finite numbers.
-/
module

public import proofs.«01_k».proof.Proof.Lookup

@[expose] public section

set_option maxRecDepth 16384

noncomputable section

namespace Cert.ReferenceIdeal.Num

open Idealize.ShloMosaic Idealize.ShloMosaic.TcCoe Idealize.SL.Sem Cert.ReferenceIdeal Cert.ReferenceIdeal.Gen
  Cert.ReferenceIdeal.Read

/-- The number added to the variance. -/
def eps : ℝ := (Ideal.ofBits .f32 0x3727C5AC#32).toReal

/-- It is a positive real number. -/
theorem eps_eq : Ideal.ofBits .f32 0x3727C5AC#32 = (eps : EReal) ∧ 0 < eps := by
  have h : Ideal.ofBits .f32 0x3727C5AC#32 = ((2748779 / 2 ^ 38 : ℝ) : EReal) := by
    simp [Ideal.ofBits, Ideal.ieee, -EReal.coe_mul]
    norm_num
  unfold eps
  rw [h, EReal.toReal_coe]
  exact ⟨rfl, by norm_num⟩

/-- The divisor is the number five. -/
theorem five_eq : Ideal.ofBits .f32 0x40A00000#32 = ((5 : ℝ) : EReal) := by
  simp [Ideal.ofBits, Ideal.ieee, -EReal.coe_mul]
  norm_num

/-- The mean of five numbers. -/
def mean (x : Fin 5 → ℝ) : ℝ := (∑ j, x j) / 5

/-- The mean of the squares of their deviations from the mean. -/
def variance (x : Fin 5 → ℝ) : ℝ := (∑ j, (x j - mean x) * (x j - mean x)) / 5

/-- A number's deviation from the mean over the root of the variance and a little more. -/
def scaled (x : Fin 5 → ℝ) (k : Fin 5) : ℝ := (x k - mean x) / Real.sqrt (variance x + eps)

/-- The variance is not negative. -/
theorem variance_nonneg (x : Fin 5 → ℝ) : 0 ≤ variance x :=
  div_nonneg (Finset.sum_nonneg fun j _ => mul_self_nonneg _) (by norm_num)

/-- A sum of five real numbers, taken over the extended reals, is their real sum. -/
theorem coe_sum (f : Fin 5 → ℝ) : (∑ j, (f j : EReal)) = ((∑ j, f j : ℝ) : EReal) := by
  simp only [Fin.sum_univ_five, EReal.coe_add]

/-- A real number divided by five over the extended reals is the real quotient. -/
theorem div_five (a : ℝ) : Ideal.div (a : EReal) ((5 : ℝ) : EReal) = ((a / 5 : ℝ) : EReal) := by
  rw [Ideal.div_coe (by norm_num), ← EReal.coe_mul]
  congr 1
  ring

variable (x1 : Vec Ideal S4096x50x5 .f32) (x8 x9 : Vec Ideal S5 .f32) (b : Fin 4096) (l : Fin 50) (z : Fin 1)
  (x : Fin 5 → ℝ) (hx : ∀ j, x1 (ix3 b l j) = (x j : EReal))

include hx

/-- The reference's mean of five real numbers is their mean. -/
theorem mean_apply : val_main_v27 (F := Ideal) x1 (ix3 b l z) = (mean x : EReal) := by
  have e : val_main_v27 (F := Ideal) x1 (ix3 b l z)
      = Ideal.div (∑ j, x1 (ix3 b l j)) (Ideal.ofBits .f32 0x40A00000#32) := by
    pointwise [val_main_v27, val_main_v26, val_main_v25, val_main_v24, val_main_cst, val_main_cst_0]
  rw [e, five_eq, Finset.sum_congr rfl fun j _ => hx j, coe_sum, div_five]
  rfl

/-- So is the mean that its variance takes. -/
theorem inner_mean_apply : val_main_call8_v3 (F := Ideal) x1 (ix3 b l z) = (mean x : EReal) := by
  have e : val_main_call8_v3 (F := Ideal) x1 (ix3 b l z)
      = Ideal.div (∑ j, x1 (ix3 b l j)) (Ideal.ofBits .f32 0x40A00000#32) := by
    pointwise [val_main_call8_v3, val_main_call8_v2, val_main_call8_v1, val_main_call8_v0, val_main_call8_cst, val_main_call8_cst_0]
  rw [e, five_eq, Finset.sum_congr rfl fun j _ => hx j, coe_sum, div_five]
  rfl

/-- The reference's variance of five real numbers is their variance. -/
theorem variance_apply : val_main_v28 (F := Ideal) x1 (ix3 b l z) = (variance x : EReal) := by
  have e : val_main_v28 (F := Ideal) x1 (ix3 b l z)
      = if 0 < Ideal.ofBits .f32 0x40A00000#32 - (FloatOps.sitofp .f32 0#32 : Ideal .f32) then
          Ideal.div (∑ j, (x1 (ix3 b l j) - val_main_call8_v3 (F := Ideal) x1 (ix3 b l 0))
            * (x1 (ix3 b l j) - val_main_call8_v3 (F := Ideal) x1 (ix3 b l 0)))
            (Ideal.ofBits .f32 0x40A00000#32 - (FloatOps.sitofp .f32 0#32 : Ideal .f32))
        else val_main_call8_call0_v1 (F := Ideal) (ix3 b l z) := by
    pointwise [val_main_v28, val_main_call8_v12, val_main_call8_v11, val_main_call8_v10, val_main_call8_v9,
      val_main_call8_v8, val_main_call8_v7, val_main_call8_v6, val_main_call8_v5, val_main_call8_v4, val_main_call8_v13,
      val_main_call8_cst_3, val_main_call8_cst_2, val_main_call8_cst_1, val_main_c]
  have e0 : Ideal.ofBits .f32 0x40A00000#32 - (FloatOps.sitofp .f32 0#32 : Ideal .f32) = ((5 : ℝ) : EReal) := by
    have e1 : (FloatOps.sitofp .f32 0#32 : Ideal .f32) = ((0 : ℝ) : EReal) := by
      show ((((0#32 : BitVec 32).toInt : ℝ)) : EReal) = _
      simp
    rw [e1, five_eq, ← EReal.coe_sub, sub_zero]
  rw [e, e0, if_pos (EReal.coe_pos.2 (by norm_num)), inner_mean_apply x1 b l 0 x hx]
  have e2 : ∀ j, (x1 (ix3 b l j) - (mean x : EReal)) * (x1 (ix3 b l j) - (mean x : EReal))
      = (((x j - mean x) * (x j - mean x) : ℝ) : EReal) := fun j => by rw [hx, ← EReal.coe_sub, ← EReal.coe_mul]
  rw [Finset.sum_congr rfl fun j _ => e2 j, coe_sum, div_five]
  rfl

/-- The normalized feature `k` at a position. -/
theorem num_apply (k : Fin 5) : val_main_v41 (F := Ideal) x1 x8 x9 (ix3 b l k)
    = (scaled x k : EReal) * x8 (ix1 k) + x9 (ix1 k) := by
  have e : val_main_v41 (F := Ideal) x1 x8 x9 (ix3 b l k)
      = Ideal.div (x1 (ix3 b l k) - val_main_v27 (F := Ideal) x1 (ix3 b l 0))
          (Ideal.sqrt (val_main_v28 (F := Ideal) x1 (ix3 b l 0) + Ideal.ofBits .f32 0x3727C5AC#32)) * x8 (ix1 k) + x9 (ix1 k) := by
    pointwise [val_main_v41, val_main_v40, val_main_v39, val_main_v38, val_main_v37, val_main_v36, val_main_v35,
      val_main_v34, val_main_v33, val_main_v32, val_main_v31, val_main_cst_1, val_main_v30, val_main_v29]
  have hp : 0 < variance x + eps := add_pos_of_nonneg_of_pos (variance_nonneg x) eps_eq.2
  rw [e, mean_apply x1 b l 0 x hx, variance_apply x1 b l 0 x hx, hx, eps_eq.1, ← EReal.coe_add, Ideal.sqrt_coe,
    if_neg (not_lt.2 hp.le), ← EReal.coe_sub, Ideal.div_coe (Real.sqrt_pos.2 hp).ne', ← EReal.coe_mul]
  congr 3
  unfold scaled
  ring

end Cert.ReferenceIdeal.Num

end
-- ==== Proof.Numbers.lean ====
/-
  The part of the second launch's sums that the numeric features contribute, over finite numbers.
-/
module

public import proofs.«01_k».proof.Proof.HostValues
public import proofs.«01_k».proof.Proof.PrepBlock
public import proofs.«01_k».proof.Proof.MainBlock
public import proofs.«01_k».proof.Proof.NumRow

@[expose] public section

set_option maxRecDepth 16384

noncomputable section

namespace Cert.KernelIdeal.Numbers

open Idealize.ShloMosaic Idealize.ShloMosaic.TcCoe Idealize.SL.Sem Cert.KernelIdeal Cert.KernelIdeal.Gen
  Cert.KernelIdeal.HostPrep Cert.KernelIdeal.MainBlock
open Cert.ReferenceIdeal.Num (eps eps_eq mean variance scaled variance_nonneg coe_sum)

/-- A sum over eight places of which only the first five have an entry. -/
theorem sum_five (f : Fin 8 → EReal) (g : Fin 5 → EReal) (h : ∀ k : Fin 5, f ⟨k.val, by omega⟩ = g k)
    (h0 : ∀ k : Fin 8, ¬k.val < 5 → f k = 0) : ∑ k, f k = ∑ k, g k := by
  rw [Fin.sum_univ_two_halves 5 3 rfl, Finset.sum_eq_zero (s := Finset.univ (α := Fin 3)) fun k _ => h0 _ (by dsimp only; omega),
    add_zero]
  exact Finset.sum_congr rfl fun k _ => h k

/-- The mean of the squares less the square of the mean is the variance. -/
theorem variance_eq (x : Fin 5 → ℝ) :
    (∑ j, x j * x j) * (1 / 5) - (∑ j, x j) * (1 / 5) * ((∑ j, x j) * (1 / 5)) = variance x := by
  unfold variance mean
  simp only [Fin.sum_univ_five]
  ring

/-- The kernel's normalization of five real numbers, zeros below them, is the reference's. -/
theorem normed_eq (x : Fin 5 → ℝ) (X : Fin 8 → EReal) (hX : ∀ j, X j = if h : j.val < 5 then (x ⟨j.val, h⟩ : EReal) else 0)
    (k : Fin 5) : normed X (Ideal.ofBits .f32 0x3727C5AC#32) ⟨k.val, by omega⟩ = (scaled x k : EReal) := by
  have hin : ∀ j : Fin 5, X ⟨j.val, by omega⟩ = (x j : EReal) := fun j => by rw [hX, dif_pos j.isLt]
  have e1 : ∑ j, X j = ((∑ j, x j : ℝ) : EReal) := by
    rw [← coe_sum]
    exact sum_five _ _ hin fun j hj => by rw [hX, dif_neg hj]
  have e2 : ∑ j, X j * X j = ((∑ j, x j * x j : ℝ) : EReal) := by
    rw [← coe_sum]
    exact sum_five _ _ (fun j => by rw [hin, ← EReal.coe_mul]) fun j hj => by rw [hX, dif_neg hj, zero_mul]
  have hp : 0 < variance x + eps := add_pos_of_nonneg_of_pos (variance_nonneg x) eps_eq.2
  unfold normed
  rw [e1, e2, hin, eps_eq.1, ← EReal.coe_mul, ← EReal.coe_mul, ← EReal.coe_mul, ← EReal.coe_sub, ← EReal.coe_sub, variance_eq,
    ← EReal.coe_add, Ideal.rsqrt_coe, if_neg (not_lt.2 hp.le), if_neg hp.ne', ← EReal.coe_mul]
  congr 1
  unfold scaled mean
  ring

/-- A real factor goes into a sum of which one term is real, whatever the other. -/
theorem add_mul_real (r v : ℝ) (b : EReal) : ((r : EReal) + b) * v = (r : EReal) * v + b * v := by
  induction b using EReal.rec with
  | coe q => norm_cast; ring
  | top =>
    rcases lt_trichotomy v 0 with h | rfl | h
    · rw [EReal.coe_add_top, EReal.top_mul_coe_of_neg h, EReal.add_bot]
    · simp
    · rw [EReal.coe_add_top, EReal.top_mul_coe_of_pos h, ← EReal.coe_mul, EReal.coe_add_top]
  | bot =>
    rcases lt_trichotomy v 0 with h | rfl | h
    · rw [EReal.add_bot, EReal.bot_mul_coe_of_neg h, ← EReal.coe_mul, EReal.coe_add_top]
    · simp
    · rw [EReal.add_bot, EReal.bot_mul_coe_of_pos h, EReal.add_bot]

variable (s : Vec Ideal S64x256 .f32) (w : Vec Ideal S256x256 .f32) (a8 a9 : Vec Ideal S5 .f32)
  (a10 : Vec Ideal S253x256 .f32) (a11 : Vec Ideal S256 .f32) (d : Fin 256)

/-- Row `64 + k` of the table: the weights' row `248 + k` scaled. -/
theorem scaled_row (k : Fin 5) : PrepBlock.table s w (last a10) (scale a8) (offset a9) (bias a11) (ix2 ⟨64 + k.val, by omega⟩ d)
    = a8 (ix1 k) * a10 (ix2 ⟨248 + k.val, by omega⟩ d) := by
  refine (PrepBlock.table_scale s w (last a10) (scale a8) (offset a9) (bias a11) ⟨k.val, by omega⟩ d).trans ?_
  rw [Finset.sum_eq_single (⟨k.val, by omega⟩ : Fin 8)]
  · rw [scale_apply, last_apply, dif_pos ⟨rfl, k.isLt⟩, dif_pos k.isLt]
  · intro j _ hj
    rw [scale_apply, dif_neg fun h => hj h.1.symm, zero_mul]
  · intro h
    exact absurd (Finset.mem_univ _) h

/-- The three rows after it are zero. -/
theorem zero_row (k : Fin 8) (hk : ¬k.val < 5) :
    PrepBlock.table s w (last a10) (scale a8) (offset a9) (bias a11) (ix2 ⟨64 + k.val, by omega⟩ d) = 0 := by
  refine (PrepBlock.table_scale s w (last a10) (scale a8) (offset a9) (bias a11) k d).trans ?_
  refine Finset.sum_eq_zero fun j _ => ?_
  rw [scale_apply, dif_neg fun h => hk h.2, zero_mul]

/-- Row 72 of the table: the bias and the offsets against the weights' last five rows. -/
theorem bias_row : PrepBlock.table s w (last a10) (scale a8) (offset a9) (bias a11) (ix2 72 d)
    = a11 (ix1 d) + ∑ j : Fin 5, a9 (ix1 j) * a10 (ix2 ⟨248 + j.val, by omega⟩ d) := by
  refine (PrepBlock.table_bias s w (last a10) (scale a8) (offset a9) (bias a11) 0 d).trans ?_
  rw [bias_apply]
  refine congrArg (a11 (ix1 d) + ·) (sum_five _ _ (fun j => ?_) fun j hj => ?_)
  · rw [offset_apply, last_apply, dif_pos j.isLt, dif_pos j.isLt]
  · rw [offset_apply, dif_neg hj, zero_mul]

/-- The numeric features' part at column `d`, the bias with it. -/
theorem part (x : Fin 5 → ℝ) (X : Fin 8 → EReal) (hX : ∀ j, X j = if h : j.val < 5 then (x ⟨j.val, h⟩ : EReal) else 0)
    (h8 : ∀ i, ∃ r : ℝ, a8 i = (r : EReal))
    (h10 : ∀ k : Fin 5, ∃ r : ℝ, a10 (ix2 ⟨248 + k.val, by omega⟩ d) = (r : EReal)) :
    (∑ k : Fin 8, normed X (Ideal.ofBits .f32 0x3727C5AC#32) k
        * PrepBlock.table s w (last a10) (scale a8) (offset a9) (bias a11) (ix2 ⟨64 + k.val, by omega⟩ d))
      + PrepBlock.table s w (last a10) (scale a8) (offset a9) (bias a11) (ix2 72 d)
      = (∑ k : Fin 5, ((scaled x k : EReal) * a8 (ix1 k) + a9 (ix1 k)) * a10 (ix2 ⟨248 + k.val, by omega⟩ d)) + a11 (ix1 d) := by
  choose p hp using h8
  choose v hv using h10
  rw [sum_five _ (fun k => (scaled x k : EReal) * (a8 (ix1 k) * a10 (ix2 ⟨248 + k.val, by omega⟩ d)))
    (fun k => by rw [normed_eq x X hX, scaled_row]) fun k hk => by rw [zero_row _ _ _ _ _ _ _ _ hk, mul_zero], bias_row]
  rw [add_comm (a11 (ix1 d)), ← add_assoc, ← Finset.sum_add_distrib]
  refine congrArg (· + a11 (ix1 d)) (Finset.sum_congr rfl fun k _ => ?_)
  rw [hp, hv, ← EReal.coe_mul, ← EReal.coe_mul, ← EReal.coe_mul, add_mul_real, ← EReal.coe_mul, mul_assoc]

end Cert.KernelIdeal.Numbers

end
-- ==== Proof.RefRows.lean ====
/-
  The reference's eight lookups at categories below eight, and its joined rows of 253 features.
-/
module

public import proofs.«01_k».proof.Proof.Lookup

@[expose] public section

set_option maxRecDepth 16384

noncomputable section

namespace Cert.ReferenceIdeal.Rows

open Idealize.ShloMosaic Idealize.ShloMosaic.TcCoe Idealize.SL.Sem Cert.ReferenceIdeal Cert.ReferenceIdeal.Gen
  Cert.ReferenceIdeal.Read Cert.ReferenceIdeal.Lookup

variable (x0 : Vec Ideal S4096x50x8 .i32) (x1 : Vec Ideal S4096x50x5 .f32) (x2 : Vec Ideal S30000x64 .f32)
  (x3 : Vec Ideal S8x16 .f32) (x4 : Vec Ideal S32x32 .f32) (x5 : Vec Ideal S64x16 .f32) (x6 : Vec Ideal S8x8 .f32)
  (x7 : Vec Ideal S12000x64 .f32) (x8 x9 : Vec Ideal S5 .f32)

/-- The categories at a position, all of them below eight. -/
def cat (h : ∀ i, (x0 i).toNat < 8) (b : Fin 4096) (l : Fin 50) (f : Fin 8) : Fin 8 := ⟨(x0 (ix3 b l f)).toNat, h _⟩

section Columns

variable (b : Fin 4096) (l : Fin 50)

/-- The reference's column of feature 0 is the categories at that feature. -/
theorem col_0 : val_main_v1 (F := Ideal) x0 (ix2 b l) = x0 (ix3 b l 0) := by pointwise [val_main_v1, val_main_v0]
/-- The reference's column of feature 1 is the categories at that feature. -/
theorem col_1 : val_main_v4 (F := Ideal) x0 (ix2 b l) = x0 (ix3 b l 1) := by pointwise [val_main_v4, val_main_v3]
/-- The reference's column of feature 2 is the categories at that feature. -/
theorem col_2 : val_main_v7 (F := Ideal) x0 (ix2 b l) = x0 (ix3 b l 2) := by pointwise [val_main_v7, val_main_v6]
/-- The reference's column of feature 3 is the categories at that feature. -/
theorem col_3 : val_main_v10 (F := Ideal) x0 (ix2 b l) = x0 (ix3 b l 3) := by pointwise [val_main_v10, val_main_v9]
/-- The reference's column of feature 4 is the categories at that feature. -/
theorem col_4 : val_main_v13 (F := Ideal) x0 (ix2 b l) = x0 (ix3 b l 4) := by pointwise [val_main_v13, val_main_v12]
/-- The reference's column of feature 5 is the categories at that feature. -/
theorem col_5 : val_main_v16 (F := Ideal) x0 (ix2 b l) = x0 (ix3 b l 5) := by pointwise [val_main_v16, val_main_v15]
/-- The reference's column of feature 6 is the categories at that feature. -/
theorem col_6 : val_main_v19 (F := Ideal) x0 (ix2 b l) = x0 (ix3 b l 6) := by pointwise [val_main_v19, val_main_v18]
/-- The reference's column of feature 7 is the categories at that feature. -/
theorem col_7 : val_main_v22 (F := Ideal) x0 (ix2 b l) = x0 (ix3 b l 7) := by pointwise [val_main_v22, val_main_v21]

end Columns

/-- The lookup of feature 0 is the general lookup in its table. -/
theorem base_before_eq : val_main_v2 (F := Ideal) x0 x3
    = taken gather_S8x16_S4096x50x1_S4096x50x16_2_0_n_n_0_2_116_wf bcast_S4096x50_S4096x50x16_0_1 bcast_S_S4096x50x16
        8#32 7#32 (val_main_v1 (F := Ideal) x0) x3 := rfl

/-- Feature 0, at a category below eight: the row that it names. -/
theorem base_before (h : ∀ i, (x0 i).toNat < 8) (b : Fin 4096) (l : Fin 50) (d : Fin 16) :
    val_main_v2 (F := Ideal) x0 x3 (ix3 b l d) = x3 (ix2 (cat x0 h b l 0) d) := by
  have hc : ∀ b l, (val_main_v1 (F := Ideal) x0 (ix2 b l)).toNat < 8 := fun b l => by rw [col_0]; exact h _
  rw [base_before_eq]
  refine (taken_apply _ _ _ _ _ _ _ hc (by decide) (by decide) b l d (Nat.lt_of_lt_of_le (hc b l) (by decide))).trans ?_
  refine congrArg (fun q => x3 (ix2 q d)) (Fin.ext ?_)
  show (val_main_v1 (F := Ideal) x0 (ix2 b l)).toNat = (x0 (ix3 b l 0)).toNat
  rw [col_0]

/-- The lookup of feature 1 is the general lookup in its table. -/
theorem pos_eq : val_main_v5 (F := Ideal) x0 x2
    = taken gather_S30000x64_S4096x50x1_S4096x50x64_2_0_n_n_0_2_164_wf bcast_S4096x50_S4096x50x64_0_1 bcast_S_S4096x50x64
        30000#32 29999#32 (val_main_v4 (F := Ideal) x0) x2 := rfl

/-- Feature 1, at a category below eight: the row that it names. -/
theorem pos (h : ∀ i, (x0 i).toNat < 8) (b : Fin 4096) (l : Fin 50) (d : Fin 64) :
    val_main_v5 (F := Ideal) x0 x2 (ix3 b l d) = x2 (ix2 (⟨(cat x0 h b l 1).val, by omega⟩ : Fin 30000) d) := by
  have hc : ∀ b l, (val_main_v4 (F := Ideal) x0 (ix2 b l)).toNat < 8 := fun b l => by rw [col_1]; exact h _
  rw [pos_eq]
  refine (taken_apply _ _ _ _ _ _ _ hc (by decide) (by decide) b l d (Nat.lt_of_lt_of_le (hc b l) (by decide))).trans ?_
  refine congrArg (fun q => x2 (ix2 q d)) (Fin.ext ?_)
  show (val_main_v4 (F := Ideal) x0 (ix2 b l)).toNat = (x0 (ix3 b l 1)).toNat
  rw [col_1]

/-- The lookup of feature 2 is the general lookup in its table. -/
theorem base_after_eq : val_main_v8 (F := Ideal) x0 x3
    = taken gather_S8x16_S4096x50x1_S4096x50x16_2_0_n_n_0_2_116_wf bcast_S4096x50_S4096x50x16_0_1 bcast_S_S4096x50x16
        8#32 7#32 (val_main_v7 (F := Ideal) x0) x3 := rfl

/-- Feature 2, at a category below eight: the row that it names. -/
theorem base_after (h : ∀ i, (x0 i).toNat < 8) (b : Fin 4096) (l : Fin 50) (d : Fin 16) :
    val_main_v8 (F := Ideal) x0 x3 (ix3 b l d) = x3 (ix2 (cat x0 h b l 2) d) := by
  have hc : ∀ b l, (val_main_v7 (F := Ideal) x0 (ix2 b l)).toNat < 8 := fun b l => by rw [col_2]; exact h _
  rw [base_after_eq]
  refine (taken_apply _ _ _ _ _ _ _ hc (by decide) (by decide) b l d (Nat.lt_of_lt_of_le (hc b l) (by decide))).trans ?_
  refine congrArg (fun q => x3 (ix2 q d)) (Fin.ext ?_)
  show (val_main_v7 (F := Ideal) x0 (ix2 b l)).toNat = (x0 (ix3 b l 2)).toNat
  rw [col_2]

/-- The lookup of feature 3 is the general lookup in its table. -/
theorem codon_eq : val_main_v11 (F := Ideal) x0 x6
    = taken gather_S8x8_S4096x50x1_S4096x50x8_2_0_n_n_0_2_18_wf bcast_S4096x50_S4096x50x8_0_1 bcast_S_S4096x50x8
        8#32 7#32 (val_main_v10 (F := Ideal) x0) x6 := rfl

/-- Feature 3, at a category below eight: the row that it names. -/
theorem codon (h : ∀ i, (x0 i).toNat < 8) (b : Fin 4096) (l : Fin 50) (d : Fin 8) :
    val_main_v11 (F := Ideal) x0 x6 (ix3 b l d) = x6 (ix2 (cat x0 h b l 3) d) := by
  have hc : ∀ b l, (val_main_v10 (F := Ideal) x0 (ix2 b l)).toNat < 8 := fun b l => by rw [col_3]; exact h _
  rw [codon_eq]
  refine (taken_apply _ _ _ _ _ _ _ hc (by decide) (by decide) b l d (Nat.lt_of_lt_of_le (hc b l) (by decide))).trans ?_
  refine congrArg (fun q => x6 (ix2 q d)) (Fin.ext ?_)
  show (val_main_v10 (F := Ideal) x0 (ix2 b l)).toNat = (x0 (ix3 b l 3)).toNat
  rw [col_3]

/-- The lookup of feature 4 is the general lookup in its table. -/
theorem aa_before_eq : val_main_v14 (F := Ideal) x0 x4
    = taken gather_S32x32_S4096x50x1_S4096x50x32_2_0_n_n_0_2_132_wf bcast_S4096x50_S4096x50x32_0_1 bcast_S_S4096x50x32
        32#32 31#32 (val_main_v13 (F := Ideal) x0) x4 := rfl

/-- Feature 4, at a category below eight: the row that it names. -/
theorem aa_before (h : ∀ i, (x0 i).toNat < 8) (b : Fin 4096) (l : Fin 50) (d : Fin 32) :
    val_main_v14 (F := Ideal) x0 x4 (ix3 b l d) = x4 (ix2 (⟨(cat x0 h b l 4).val, by omega⟩ : Fin 32) d) := by
  have hc : ∀ b l, (val_main_v13 (F := Ideal) x0 (ix2 b l)).toNat < 8 := fun b l => by rw [col_4]; exact h _
  rw [aa_before_eq]
  refine (taken_apply _ _ _ _ _ _ _ hc (by decide) (by decide) b l d (Nat.lt_of_lt_of_le (hc b l) (by decide))).trans ?_
  refine congrArg (fun q => x4 (ix2 q d)) (Fin.ext ?_)
  show (val_main_v13 (F := Ideal) x0 (ix2 b l)).toNat = (x0 (ix3 b l 4)).toNat
  rw [col_4]

/-- The lookup of feature 5 is the general lookup in its table. -/
theorem protein_eq : val_main_v17 (F := Ideal) x0 x7
    = taken gather_S12000x64_S4096x50x1_S4096x50x64_2_0_n_n_0_2_164_wf bcast_S4096x50_S4096x50x64_0_1 bcast_S_S4096x50x64
        12000#32 11999#32 (val_main_v16 (F := Ideal) x0) x7 := rfl

/-- Feature 5, at a category below eight: the row that it names. -/
theorem protein (h : ∀ i, (x0 i).toNat < 8) (b : Fin 4096) (l : Fin 50) (d : Fin 64) :
    val_main_v17 (F := Ideal) x0 x7 (ix3 b l d) = x7 (ix2 (⟨(cat x0 h b l 5).val, by omega⟩ : Fin 12000) d) := by
  have hc : ∀ b l, (val_main_v16 (F := Ideal) x0 (ix2 b l)).toNat < 8 := fun b l => by rw [col_5]; exact h _
  rw [protein_eq]
  refine (taken_apply _ _ _ _ _ _ _ hc (by decide) (by decide) b l d (Nat.lt_of_lt_of_le (hc b l) (by decide))).trans ?_
  refine congrArg (fun q => x7 (ix2 q d)) (Fin.ext ?_)
  show (val_main_v16 (F := Ideal) x0 (ix2 b l)).toNat = (x0 (ix3 b l 5)).toNat
  rw [col_5]

/-- The lookup of feature 6 is the general lookup in its table. -/
theorem aa_after_eq : val_main_v20 (F := Ideal) x0 x4
    = taken gather_S32x32_S4096x50x1_S4096x50x32_2_0_n_n_0_2_132_wf bcast_S4096x50_S4096x50x32_0_1 bcast_S_S4096x50x32
        32#32 31#32 (val_main_v19 (F := Ideal) x0) x4 := rfl

/-- Feature 6, at a category below eight: the row that it names. -/
theorem aa_after (h : ∀ i, (x0 i).toNat < 8) (b : Fin 4096) (l : Fin 50) (d : Fin 32) :
    val_main_v20 (F := Ideal) x0 x4 (ix3 b l d) = x4 (ix2 (⟨(cat x0 h b l 6).val, by omega⟩ : Fin 32) d) := by
  have hc : ∀ b l, (val_main_v19 (F := Ideal) x0 (ix2 b l)).toNat < 8 := fun b l => by rw [col_6]; exact h _
  rw [aa_after_eq]
  refine (taken_apply _ _ _ _ _ _ _ hc (by decide) (by decide) b l d (Nat.lt_of_lt_of_le (hc b l) (by decide))).trans ?_
  refine congrArg (fun q => x4 (ix2 q d)) (Fin.ext ?_)
  show (val_main_v19 (F := Ideal) x0 (ix2 b l)).toNat = (x0 (ix3 b l 6)).toNat
  rw [col_6]

/-- The lookup of feature 7 is the general lookup in its table. -/
theorem region_eq : val_main_v23 (F := Ideal) x0 x5
    = taken gather_S64x16_S4096x50x1_S4096x50x16_2_0_n_n_0_2_116_wf bcast_S4096x50_S4096x50x16_0_1 bcast_S_S4096x50x16
        64#32 63#32 (val_main_v22 (F := Ideal) x0) x5 := rfl

/-- Feature 7, at a category below eight: the row that it names. -/
theorem region (h : ∀ i, (x0 i).toNat < 8) (b : Fin 4096) (l : Fin 50) (d : Fin 16) :
    val_main_v23 (F := Ideal) x0 x5 (ix3 b l d) = x5 (ix2 (⟨(cat x0 h b l 7).val, by omega⟩ : Fin 64) d) := by
  have hc : ∀ b l, (val_main_v22 (F := Ideal) x0 (ix2 b l)).toNat < 8 := fun b l => by rw [col_7]; exact h _
  rw [region_eq]
  refine (taken_apply _ _ _ _ _ _ _ hc (by decide) (by decide) b l d (Nat.lt_of_lt_of_le (hc b l) (by decide))).trans ?_
  refine congrArg (fun q => x5 (ix2 q d)) (Fin.ext ?_)
  show (val_main_v22 (F := Ideal) x0 (ix2 b l)).toNat = (x0 (ix3 b l 7)).toNat
  rw [col_7]

/-- The joined row of 253 features, at a column. -/
theorem joined (b : Fin 4096) (l : Fin 50) (k : Fin 253) :
    val_main_v42 (F := Ideal) x0 x1 x2 x3 x4 x5 x6 x7 x8 x9 (ix3 b l k)
      = if h : k.val < 64 then val_main_v5 (F := Ideal) x0 x2 (ix3 b l ⟨k.val, h⟩)
        else if h1 : k.val < 80 then val_main_v2 (F := Ideal) x0 x3 (ix3 b l ⟨k.val - 64, by omega⟩)
        else if h2 : k.val < 96 then val_main_v8 (F := Ideal) x0 x3 (ix3 b l ⟨k.val - 80, by omega⟩)
        else if h3 : k.val < 128 then val_main_v14 (F := Ideal) x0 x4 (ix3 b l ⟨k.val - 96, by omega⟩)
        else if h4 : k.val < 160 then val_main_v20 (F := Ideal) x0 x4 (ix3 b l ⟨k.val - 128, by omega⟩)
        else if h5 : k.val < 176 then val_main_v23 (F := Ideal) x0 x5 (ix3 b l ⟨k.val - 160, by omega⟩)
        else if h6 : k.val < 184 then val_main_v11 (F := Ideal) x0 x6 (ix3 b l ⟨k.val - 176, by omega⟩)
        else if h7 : k.val < 248 then val_main_v17 (F := Ideal) x0 x7 (ix3 b l ⟨k.val - 184, by omega⟩)
        else val_main_v41 (F := Ideal) x1 x8 x9 (ix3 b l ⟨k.val - 248, by omega⟩) := by
  unfold val_main_v42
  generalize val_main_v5 (F := Ideal) x0 x2 = y5
  generalize val_main_v2 (F := Ideal) x0 x3 = y2
  generalize val_main_v8 (F := Ideal) x0 x3 = y8
  generalize val_main_v14 (F := Ideal) x0 x4 = y14
  generalize val_main_v20 (F := Ideal) x0 x4 = y20
  generalize val_main_v23 (F := Ideal) x0 x5 = y23
  generalize val_main_v11 (F := Ideal) x0 x6 = y11
  generalize val_main_v17 (F := Ideal) x0 x7 = y17
  generalize val_main_v41 (F := Ideal) x1 x8 x9 = y41
  pointwise []
  simp only [Nat.sub_sub, Nat.reduceAdd,
    show k.val - 64 < 16 ↔ k.val < 80 from by omega,
    show k.val - 80 < 16 ↔ k.val < 96 from by omega,
    show k.val - 96 < 32 ↔ k.val < 128 from by omega,
    show k.val - 128 < 32 ↔ k.val < 160 from by omega,
    show k.val - 160 < 16 ↔ k.val < 176 from by omega,
    show k.val - 176 < 8 ↔ k.val < 184 from by omega,
    show k.val - 184 < 64 ↔ k.val < 248 from by omega]

end Cert.ReferenceIdeal.Rows

end
-- ==== Proof.Equation.lean ====
/-
  The kernel's result is the reference's: of any arguments within the precondition both compute the same array.
-/
module

public import proofs.«01_k».proof.Proof.Between
public import proofs.«01_k».proof.Proof.KernelValue
public import proofs.«01_k».proof.Proof.Categories
public import proofs.«01_k».proof.Proof.Numbers
public import proofs.«01_k».proof.Proof.RefRows

@[expose] public section

set_option maxRecDepth 16384

noncomputable section

namespace Cert.Equation

open Idealize.ShloMosaic Idealize.ShloMosaic.TcCoe Idealize.SL.Sem Cert.KernelIdeal Cert.KernelIdeal.MainBlock
  Cert.KernelIdeal.Categories
open Cert.ReferenceIdeal.Read Cert.ReferenceIdeal.Rows

variable (a0 : Vec Ideal S4096x50x8 .i32) (a1 : Vec Ideal S4096x50x5 .f32) (a2 : Vec Ideal S30000x64 .f32)
  (a3 : Vec Ideal S8x16 .f32) (a4 : Vec Ideal S32x32 .f32) (a5 : Vec Ideal S64x16 .f32) (a6 : Vec Ideal S8x8 .f32)
  (a7 : Vec Ideal S12000x64 .f32) (a8 a9 : Vec Ideal S5 .f32) (a10 : Vec Ideal S253x256 .f32) (a11 : Vec Ideal S256 .f32)

/-- The table that the second launch reads. -/
def table : Vec Ideal S80x256 .f32 :=
  PrepBlock.table (HostPrep.small a2 a3 a4 a5 a6 a7) (HostPrep.weights a10) (HostPrep.last a10) (HostPrep.scale a8)
    (HostPrep.offset a9) (HostPrep.bias a11)

variable (h0 : ∀ i, (a0 i).toNat < 8) (x : S4096x50x5.Idx → ℝ) (h1 : ∀ i, a1 i = (x i : EReal))

include h0 in
/-- The first 248 features of the reference's joined row are the chosen rows of the tables. -/
theorem joined_chosen (b : Fin 4096) (l : Fin 50) (k : Fin 248) :
    val_main_v42 (F := Ideal) a0 a1 a2 a3 a4 a5 a6 a7 a8 a9 (ix3 b l ⟨k.val, by omega⟩)
      = chosen a2 a3 a4 a5 a6 a7 (cat a0 h0 b l) k := by
  rw [joined]
  simp only [base_before a0 a3 h0, pos a0 a2 h0, base_after a0 a3 h0, codon a0 a6 h0, aa_before a0 a4 h0, protein a0 a7 h0,
    aa_after a0 a4 h0, region a0 a5 h0]
  unfold chosen
  split_ifs <;> first | rfl | (have := k.isLt; omega)

include h0 h1 in
/-- The reference's result at an index. -/
theorem reference_apply (b : Fin 4096) (l : Fin 50) (d : Fin 256) :
    val_main_v46 (F := Ideal) a0 a1 a2 a3 a4 a5 a6 a7 a8 a9 a10 a11 (ix3 b l d)
      = (∑ k : Fin 248, chosen a2 a3 a4 a5 a6 a7 (cat a0 h0 b l) k * a10 (ix2 ⟨k.val, by omega⟩ d))
        + ((∑ k : Fin 5, ((Cert.ReferenceIdeal.Num.scaled (fun j => x (ix3 b l j)) k : EReal) * a8 (ix1 k) + a9 (ix1 k))
            * a10 (ix2 ⟨248 + k.val, by omega⟩ d)) + a11 (ix1 d)) := by
  have e : val_main_v46 (F := Ideal) a0 a1 a2 a3 a4 a5 a6 a7 a8 a9 a10 a11 (ix3 b l d)
      = (∑ k : Fin 253, val_main_v42 (F := Ideal) a0 a1 a2 a3 a4 a5 a6 a7 a8 a9 (ix3 b l k) * a10 (ix2 k d)) + a11 (ix1 d) := by
    rw [val_main_v46_apply, val_main_v43_apply, val_main_v45_apply, val_main_v44_apply]
    have el : ∀ k : Fin 253, lidx_main_v43 (ix3 b l d) k = ix3 b l k := fun k =>
      funext fun a => by match a with | ⟨0, _⟩ => rfl | ⟨1, _⟩ => rfl | ⟨2, _⟩ => rfl
    have er : ∀ k : Fin 253, ridx_main_v43 (ix3 b l d) k = ix2 k d := fun k =>
      funext fun a => by match a with | ⟨0, _⟩ => rfl | ⟨1, _⟩ => rfl
    have eb : idx_main_v44 (idx_main_v45 (ix3 b l d)) = ix1 d := funext fun a => by match a with | ⟨0, _⟩ => rfl
    rw [eb]
    simp only [el, er]
    rfl
  rw [e, Fin.sum_univ_two_halves 248 5 rfl, add_assoc]
  refine congrArg₂ (· + ·) (Finset.sum_congr rfl fun k _ => ?_)
    (congrArg (· + a11 (ix1 d)) (Finset.sum_congr rfl fun k _ => ?_))
  · rw [joined_chosen a0 a1 a2 a3 a4 a5 a6 a7 a8 a9 h0]
  · have hj : val_main_v42 (F := Ideal) a0 a1 a2 a3 a4 a5 a6 a7 a8 a9 (ix3 b l (⟨248 + k.val, by omega⟩ : Fin 253))
        = val_main_v41 (F := Ideal) a1 a8 a9 (ix3 b l k) := by
      have hk := k.isLt
      rw [joined]
      rw [dif_neg (by dsimp only; omega), dif_neg (by dsimp only; omega), dif_neg (by dsimp only; omega),
        dif_neg (by dsimp only; omega), dif_neg (by dsimp only; omega), dif_neg (by dsimp only; omega),
        dif_neg (by dsimp only; omega), dif_neg (by dsimp only; omega)]
      exact congrArg (fun q => val_main_v41 (F := Ideal) a1 a8 a9 (ix3 b l q)) (Fin.ext (by dsimp only; omega))
    rw [hj, Cert.ReferenceIdeal.Num.num_apply a1 a8 a9 b l (fun j => x (ix3 b l j)) (fun j => h1 _) k]

include h0 h1 in
/-- The kernel's result at an index. -/
theorem kernel_apply (h8 : ∀ i, ∃ r : ℝ, a8 i = (r : EReal))
    (h10 : ∀ (k : Fin 5) (d : Fin 256), ∃ r : ℝ, a10 (ix2 ⟨248 + k.val, by omega⟩ d) = (r : EReal))
    (t : Fin 16) (b : Fin 256) (l : Fin 50) (d : Fin 256) :
    KernelValue.entry (Between.packed a0) (Between.features a1) (table a2 a3 a4 a5 a6 a7 a8 a9 a10 a11) t b l d
      = (∑ k : Fin 248, chosen a2 a3 a4 a5 a6 a7 (cat a0 h0 ⟨t.val * 256 + b.val, by omega⟩ l) k * a10 (ix2 ⟨k.val, by omega⟩ d))
        + ((∑ k : Fin 5, ((Cert.ReferenceIdeal.Num.scaled (fun j => x (ix3 ⟨t.val * 256 + b.val, by omega⟩ l j)) k : EReal)
            * a8 (ix1 k) + a9 (ix1 k)) * a10 (ix2 ⟨248 + k.val, by omega⟩ d)) + a11 (ix1 d)) := by
  have htok : (tok b l).val = b.val * 56 + l.val := rfl
  have hw : Between.packed a0 (ix3 t ⟨(tok b l : ℕ) / 128, by omega⟩ ⟨(tok b l : ℕ) % 128, by omega⟩)
      = Between.word fun f => a0 (ix3 ⟨t.val * 256 + b.val, by omega⟩ l f) :=
    Between.packed_apply a0 t _ _ ⟨t.val * 256 + b.val, by omega⟩ l (by dsimp only; omega)
  unfold KernelValue.entry
  rw [hw]
  simp only [Between.field_word (fun f => a0 (ix3 ⟨t.val * 256 + b.val, by omega⟩ l f)) (fun f => h0 _)]
  rw [add_assoc]
  refine congrArg₂ (· + ·) ?_ ?_
  · exact Categories.part a2 a3 a4 a5 a6 a7 (cat a0 h0 ⟨t.val * 256 + b.val, by omega⟩ l)
      (fun f => a0 (ix3 ⟨t.val * 256 + b.val, by omega⟩ l f)) (fun f => rfl) _ _ _ _ a10 d
  · exact Numbers.part _ _ a8 a9 a10 a11 d (fun j => x (ix3 ⟨t.val * 256 + b.val, by omega⟩ l j)) _
      (fun j => by
        rw [Between.features_apply a1 j _ ⟨t.val * 256 + b.val, by omega⟩ l (by dsimp only; omega)]
        split_ifs
        · exact h1 _
        · rfl) h8 (fun k => h10 k d)

include h0 h1 in
/-- The two results are the same array. -/
theorem results_eq (h8 : ∀ i, ∃ r : ℝ, a8 i = (r : EReal))
    (h10 : ∀ (k : Fin 5) (d : Fin 256), ∃ r : ℝ, a10 (ix2 ⟨248 + k.val, by omega⟩ d) = (r : EReal)) :
    KernelValue.result (Between.packed a0) (Between.features a1) (table a2 a3 a4 a5 a6 a7 a8 a9 a10 a11)
      = val_main_v46 (F := Ideal) a0 a1 a2 a3 a4 a5 a6 a7 a8 a9 a10 a11 := by
  funext i
  obtain ⟨B, l, d, rfl⟩ : ∃ (B : Fin 4096) (l : Fin 50) (d : Fin 256), i = ix3 B l d := ⟨i 0, i 1, i 2, ValueIdx.eq_ix3 i⟩
  obtain ⟨t, b, rfl⟩ : ∃ (t : Fin 16) (b : Fin 256), B = ⟨t.val * 256 + b.val, by omega⟩ :=
    ⟨⟨B.val / 256, by have := B.isLt; omega⟩, ⟨B.val % 256, by omega⟩, Fin.ext (by dsimp only; omega)⟩
  rw [KernelValue.result_apply, kernel_apply a0 a1 a2 a3 a4 a5 a6 a7 a8 a9 a10 a11 h0 x h1 h8 h10,
    reference_apply a0 a1 a2 a3 a4 a5 a6 a7 a8 a9 a10 a11 h0 x h1]

end Cert.Equation

end
-- ==== Proof.Runs.lean ====
/-
  The value claim: from memories that agree on the arguments, within the precondition, both programs end with the array
  that the reference's term names, the arguments unchanged.
-/
module

public import proofs.«01_k».proof.Proof.KernelRun
public import proofs.«01_k».proof.Proof.Precondition
public import proofs.«01_k».proof.Proof.Equation
public import Idealize.ShloMosaic.Lib.Claim

@[expose] public section

set_option maxRecDepth 16384

noncomputable section

namespace Cert.Runs

open Idealize.ShloMosaic Idealize.ShloMosaic.TcCoe Idealize.SL.Sem Cert.KernelIdeal Cert.KernelIdeal.Gen

/-- The array that the reference computes from the kernel's argument arrays. -/
def answer (m : (ℓ : Loc nD τ sig) → Buf (Elt Ideal) ℓ) (c : Dev nD) : Vec Ideal S4096x50x256 .f32 :=
  Cert.ReferenceIdeal.Read.val_main_v46 (F := Ideal) (m ((c.tc : Thread nD τ).loc main_arg0))
    (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6))
    (m ((c.tc : Thread nD τ).loc main_arg7)) (m ((c.tc : Thread nD τ).loc main_arg8)) (m ((c.tc : Thread nD τ).loc main_arg9))
    (m ((c.tc : Thread nD τ).loc main_arg10)) (m ((c.tc : Thread nD τ).loc main_arg11))

/-- The kernel ends with that array. -/
theorem kernel_answer [Cert.Pre_in_range_and_finite.Facts] (m : (ℓ : Loc nD τ sig) → Buf (Elt Ideal) ℓ) (ρ : Dev nD → PrngReg)
    (hpre : Cert.Pre_KernelIdeal_in_range_and_finite m) (c : Dev nD) : W31 m ρ c main_v48 = answer m c := by
  obtain ⟨p0, p1, p8, p10⟩ := hpre c
  choose x hx using Cert.Precondition.numbers _ _ _ _ _ _ _ _ _ _ _ _ p1
  have e := Cert.Equation.results_eq (m ((c.tc : Thread nD τ).loc main_arg0))
    (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6))
    (m ((c.tc : Thread nD τ).loc main_arg7)) (m ((c.tc : Thread nD τ).loc main_arg8)) (m ((c.tc : Thread nD τ).loc main_arg9))
    (m ((c.tc : Thread nD τ).loc main_arg10)) (m ((c.tc : Thread nD τ).loc main_arg11))
    (Cert.Precondition.categories _ _ _ _ _ _ _ _ _ _ _ _ p0) x hx
    (Cert.Precondition.scales _ _ _ _ _ _ _ _ _ _ _ _ p8)
    (Cert.Precondition.last_weights _ _ _ _ _ _ _ _ _ _ _ _ p10)
  refine (W31_arr m ρ c 3).trans ((KernelValue.final (V30 m ρ) c).trans (Eq.trans ?_ e))
  have e0 : V30 m ρ c main_v43 = _ := Between.packed_eq m ρ c
  have e1 : V30 m ρ c main_v47 = _ := Between.features_eq m ρ c
  have e2 : V30 m ρ c main_v33 = _ := Between.table_eq m ρ c
  rw [e0, e1, e2]
  rfl

/-- Both programs end with the same array. -/
theorem algebraic [Cert.Pre_in_range_and_finite.Facts] :
    Cert.algebraic_KernelIdeal_ReferenceIdeal_pre_in_range_and_finite := by
  intro m g m' g' hpre hagree
  refine ⟨answer m, ?_, ?_⟩
  · refine (θ_run _ _ _).mono (fun r h c => ?_) (θ_run_and (Launch.run_out m g) (unchanged m g))
    exact ⟨(h.1 c).trans (kernel_answer m g hpre c), h.2 c⟩
  · refine (θ_run _ _ _).mono (fun r h c => ?_) (Cert.ReferenceIdeal.Value.run m' g')
    refine ⟨(h c).1.trans ?_, (h c).2⟩
    obtain ⟨h0, h1, h2, h3, h4, h5, h6, h7, h8, h9, h10, h11⟩ := hagree c
    refine (Cert.ReferenceIdeal.Read.val_main_v46_eq _).trans ?_
    unfold answer
    rw [← h0, ← h1, ← h2, ← h3, ← h4, ← h5, ← h6, ← h7, ← h8, ← h9, ← h10, ← h11]

end Cert.Runs

end
-- ==== Proof.lean ====
/-
  The proof of the claim: the frames of the kernel, of the idealized kernel and of the reference, the preservation of the
  kernel's constant, and the equality of the two results over the extended reals.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Frames
public import proofs.«01_k».proof.Proof.Runs
public import Idealize.ShloMosaic.Adequacy
public import Idealize.ShloMosaic.Init

@[expose] public section

noncomputable section

namespace Cert.Proof

open Idealize.ShloMosaic Idealize.SL.Sem Cert.Kernel

/-- Everything that is claimed. -/
theorem claim : Cert.Claim :=
  haveI := Cert.Frames.pre_facts
  ⟨Cert.Kernel.Gen.facts, Cert.KernelIdeal.Gen.facts, Cert.ReferenceIdeal.Gen.facts, Cert.Frames.pre_facts,
    Cert.Frames.kernel, Cert.Frames.kernelIdeal, fun m g _ => Cert.Frames.kernelIdeal m g trivial,
    Cert.Frames.referenceIdeal, fun m g _ => Cert.Frames.referenceIdeal m g trivial, Cert.Frames.preserves,
    Cert.Runs.algebraic⟩

end Cert.Proof

end
